-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rho_is_zero [hPre_rho_is_zero : Cert.Pre_rho_is_zero.Facts] (m : (ℓ : Loc Cert.KernelIdeal.nD Cert.KernelIdeal.τ Cert.KernelIdeal.sig) → Buf (Elt Ideal) ℓ) : Prop :=
  ∀ c : Dev Cert.KernelIdeal.nD,
    (Cert.Pre_rho_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rho_is_zero [hPre_rho_is_zero : Cert.Pre_rho_is_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rho_is_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_TableKernel (m : (ℓ : Loc Cert.TableKernel.nD Cert.TableKernel.τ Cert.TableKernel.sig) → Buf (Elt Bits) ℓ) : Prop :=
  True

def Pre_TableKernelIdeal (m : (ℓ : Loc Cert.TableKernelIdeal.nD Cert.TableKernelIdeal.τ Cert.TableKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rho_is_zero [hKernelIdeal : Cert.KernelIdeal.Facts] [hPre_rho_is_zero : Cert.Pre_rho_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rho_is_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rho_is_zero [hReferenceIdeal : Cert.ReferenceIdeal.Facts] [hPre_rho_is_zero : Cert.Pre_rho_is_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rho_is_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_TableKernel [hTableKernel : Cert.TableKernel.Facts] : Prop :=
  ∀ (m : (ℓ : Loc Cert.TableKernel.nD Cert.TableKernel.τ Cert.TableKernel.sig) → Buf (Elt Bits) ℓ) (g : Dev Cert.TableKernel.nD → PrngReg), Pre_TableKernel m →
    θ_run (Cert.TableKernel.defs (F := Bits)) (onTc (τ := Cert.TableKernel.τ) (Cert.TableKernel.main (F := Bits))) ⟨m, fun _ => 0, g⟩ (fun r => (∀ c : Dev Cert.TableKernel.nD,
      r.2.mem ((c.tc : Thread Cert.TableKernel.nD Cert.TableKernel.τ).loc Cert.TableKernel.main_arg0) = m ((c.tc : Thread Cert.TableKernel.nD Cert.TableKernel.τ).loc Cert.TableKernel.main_arg0)
      ∧ r.2.mem ((c.tc : Thread Cert.TableKernel.nD Cert.TableKernel.τ).loc Cert.TableKernel.main_arg1) = m ((c.tc : Thread Cert.TableKernel.nD Cert.TableKernel.τ).loc Cert.TableKernel.main_arg1)
      ∧ r.2.mem ((c.tc : Thread Cert.TableKernel.nD Cert.TableKernel.τ).loc Cert.TableKernel.main_arg2) = m ((c.tc : Thread Cert.TableKernel.nD Cert.TableKernel.τ).loc Cert.TableKernel.main_arg2)
      ∧ r.2.mem ((c.tc : Thread Cert.TableKernel.nD Cert.TableKernel.τ).loc Cert.TableKernel.main_arg3) = m ((c.tc : Thread Cert.TableKernel.nD Cert.TableKernel.τ).loc Cert.TableKernel.main_arg3)
      ∧ r.2.mem ((c.tc : Thread Cert.TableKernel.nD Cert.TableKernel.τ).loc Cert.TableKernel.main_arg4) = m ((c.tc : Thread Cert.TableKernel.nD Cert.TableKernel.τ).loc Cert.TableKernel.main_arg4)
      ∧ r.2.mem ((c.tc : Thread Cert.TableKernel.nD Cert.TableKernel.τ).loc Cert.TableKernel.main_arg5) = m ((c.tc : Thread Cert.TableKernel.nD Cert.TableKernel.τ).loc Cert.TableKernel.main_arg5))
      ∧ r.2.sem = fun _ => 0)

def quiescent_TableKernelIdeal [hTableKernelIdeal : Cert.TableKernelIdeal.Facts] : Prop :=
  ∀ (m : (ℓ : Loc Cert.TableKernelIdeal.nD Cert.TableKernelIdeal.τ Cert.TableKernelIdeal.sig) → Buf (Elt Ideal) ℓ) (g : Dev Cert.TableKernelIdeal.nD → PrngReg), Pre_TableKernelIdeal m →
    θ_run (Cert.TableKernelIdeal.defs (F := Ideal)) (onTc (τ := Cert.TableKernelIdeal.τ) (Cert.TableKernelIdeal.main (F := Ideal))) ⟨m, fun _ => 0, g⟩ (fun r => (∀ c : Dev Cert.TableKernelIdeal.nD,
      r.2.mem ((c.tc : Thread Cert.TableKernelIdeal.nD Cert.TableKernelIdeal.τ).loc Cert.TableKernelIdeal.main_arg0) = m ((c.tc : Thread Cert.TableKernelIdeal.nD Cert.TableKernelIdeal.τ).loc Cert.TableKernelIdeal.main_arg0)
      ∧ r.2.mem ((c.tc : Thread Cert.TableKernelIdeal.nD Cert.TableKernelIdeal.τ).loc Cert.TableKernelIdeal.main_arg1) = m ((c.tc : Thread Cert.TableKernelIdeal.nD Cert.TableKernelIdeal.τ).loc Cert.TableKernelIdeal.main_arg1)
      ∧ r.2.mem ((c.tc : Thread Cert.TableKernelIdeal.nD Cert.TableKernelIdeal.τ).loc Cert.TableKernelIdeal.main_arg2) = m ((c.tc : Thread Cert.TableKernelIdeal.nD Cert.TableKernelIdeal.τ).loc Cert.TableKernelIdeal.main_arg2)
      ∧ r.2.mem ((c.tc : Thread Cert.TableKernelIdeal.nD Cert.TableKernelIdeal.τ).loc Cert.TableKernelIdeal.main_arg3) = m ((c.tc : Thread Cert.TableKernelIdeal.nD Cert.TableKernelIdeal.τ).loc Cert.TableKernelIdeal.main_arg3)
      ∧ r.2.mem ((c.tc : Thread Cert.TableKernelIdeal.nD Cert.TableKernelIdeal.τ).loc Cert.TableKernelIdeal.main_arg4) = m ((c.tc : Thread Cert.TableKernelIdeal.nD Cert.TableKernelIdeal.τ).loc Cert.TableKernelIdeal.main_arg4)
      ∧ r.2.mem ((c.tc : Thread Cert.TableKernelIdeal.nD Cert.TableKernelIdeal.τ).loc Cert.TableKernelIdeal.main_arg5) = m ((c.tc : Thread Cert.TableKernelIdeal.nD Cert.TableKernelIdeal.τ).loc Cert.TableKernelIdeal.main_arg5))
      ∧ r.2.sem = fun _ => 0)

def preserves_Kernel_KernelIdeal : Prop :=
  True

def algebraic_KernelIdeal_ReferenceIdeal_pre_rho_is_zero [hKernelIdeal : Cert.KernelIdeal.Facts] [hReferenceIdeal : Cert.ReferenceIdeal.Facts] [hPre_rho_is_zero : Cert.Pre_rho_is_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rho_is_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_TableKernel_TableKernelIdeal : Prop :=
  True

def Claim : Prop :=
  ∃ (hKernel : Cert.Kernel.Facts) (hKernelIdeal : Cert.KernelIdeal.Facts) (hReferenceIdeal : Cert.ReferenceIdeal.Facts) (hTableKernel : Cert.TableKernel.Facts) (hTableKernelIdeal : Cert.TableKernelIdeal.Facts) (hPre_rho_is_zero : Cert.Pre_rho_is_zero.Facts),
    quiescent_Kernel (hKernel := hKernel)
    ∧ quiescent_KernelIdeal (hKernelIdeal := hKernelIdeal)
    ∧ quiescent_KernelIdeal_pre_rho_is_zero (hKernelIdeal := hKernelIdeal) (hPre_rho_is_zero := hPre_rho_is_zero)
    ∧ quiescent_ReferenceIdeal (hReferenceIdeal := hReferenceIdeal)
    ∧ quiescent_ReferenceIdeal_pre_rho_is_zero (hReferenceIdeal := hReferenceIdeal) (hPre_rho_is_zero := hPre_rho_is_zero)
    ∧ quiescent_TableKernel (hTableKernel := hTableKernel)
    ∧ quiescent_TableKernelIdeal (hTableKernelIdeal := hTableKernelIdeal)
    ∧ preserves_Kernel_KernelIdeal
    ∧ algebraic_KernelIdeal_ReferenceIdeal_pre_rho_is_zero (hKernelIdeal := hKernelIdeal) (hReferenceIdeal := hReferenceIdeal) (hPre_rho_is_zero := hPre_rho_is_zero)
    ∧ preserves_TableKernel_TableKernelIdeal
-- ==== Pre_rho_is_zero.lean ====
abbrev S8x128x256 : Shape := ⟨3, ![8, 128, 256]⟩
abbrev S256x2048 : Shape := ⟨2, ![256, 2048]⟩
abbrev S2048x256 : Shape := ⟨2, ![2048, 256]⟩
abbrev S8x2048 : Shape := ⟨2, ![8, 2048]⟩
abbrev S8x256x2048 : Shape := ⟨3, ![8, 256, 2048]⟩
abbrev S_ : Shape := ⟨0, ![]⟩

class Facts : Prop where
  bcast_S_S8x256x2048 : S_.BroadcastsInDim S8x256x2048 (![] : Fin 0 → Fin S8x256x2048.rank)

variable [Facts]

def fn {F : FTy → Type} [FloatOps F] (main_arg0 : FVec F S8x128x256 .f32) (main_arg1 : FVec F S256x2048 .f32) (main_arg2 : FVec F S2048x256 .f32) (main_arg3 : FVec F S2048x256 .f32) (main_arg4 : FVec F S8x2048 .f32) (main_arg5 : FVec F S8x256x2048 .f32) : IVec S8x256x2048 1 :=
  let main_cst : FVec F S_ .f32 := constant S_ .f32 0x00000000#32
  let main_v0 : FVec F S8x256x2048 .f32 := broadcastInDim S8x256x2048 ![] bcast_S_S8x256x2048 main_cst
  let main_v1 : IVec S8x256x2048 1 := cmpf .oeq main_arg5 main_v0
  main_v1
-- ==== Kernel.lean ====
abbrev S8x128x256 : Shape := ⟨3, ![8, 128, 256]⟩
abbrev S256x2048 : Shape := ⟨2, ![256, 2048]⟩
abbrev S2048x256 : Shape := ⟨2, ![2048, 256]⟩
abbrev S8x2048 : Shape := ⟨2, ![8, 2048]⟩
abbrev S8x256x2048 : Shape := ⟨3, ![8, 256, 2048]⟩
abbrev S128x8x256 : Shape := ⟨3, ![128, 8, 256]⟩
abbrev S1024x256 : Shape := ⟨2, ![1024, 256]⟩
abbrev S128x8x2048 : Shape := ⟨3, ![128, 8, 2048]⟩
abbrev S1024x2048 : Shape := ⟨2, ![1024, 2048]⟩
abbrev S1x8x2048 : Shape := ⟨3, ![1, 8, 2048]⟩
abbrev S8 : Shape := ⟨1, ![8]⟩
abbrev S8x1 : Shape := ⟨2, ![8, 1]⟩
abbrev S128x8x1x2048 : Shape := ⟨4, ![128, 8, 1, 2048]⟩
abbrev S128x128 : Shape := ⟨2, ![128, 128]⟩
abbrev S_ : Shape := ⟨0, ![]⟩
abbrev S128x1x1x2048 : Shape := ⟨4, ![128, 1, 1, 2048]⟩
abbrev S1x128x256 : Shape := ⟨3, ![1, 128, 256]⟩
abbrev S128x2048 : Shape := ⟨2, ![128, 2048]⟩
abbrev S128x256 : Shape := ⟨2, ![128, 256]⟩
abbrev S128 : Shape := ⟨1, ![128]⟩
abbrev S128x1 : Shape := ⟨2, ![128, 1]⟩

abbrev nBuf : Space → Nat
  | .hbm => 26
  | .vmem => 14
  | .smem => 0
  | _ => 0

abbrev bufTy : (tb : Table) → Fin (tcTables nBuf tb) → BufTy
  | .hbm, ⟨0, _⟩ => ⟨S8x128x256, .f32⟩
  | .hbm, ⟨1, _⟩ => ⟨S256x2048, .f32⟩
  | .hbm, ⟨2, _⟩ => ⟨S2048x256, .f32⟩
  | .hbm, ⟨3, _⟩ => ⟨S2048x256, .f32⟩
  | .hbm, ⟨4, _⟩ => ⟨S8x2048, .f32⟩
  | .hbm, ⟨5, _⟩ => ⟨S8x256x2048, .f32⟩
  | .hbm, ⟨6, _⟩ => ⟨S128x8x256, .f32⟩
  | .hbm, ⟨7, _⟩ => ⟨S1024x256, .f32⟩
  | .hbm, ⟨8, _⟩ => ⟨S128x8x2048, .f32⟩
  | .hbm, ⟨9, _⟩ => ⟨S128x8x1x2048, .f32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S8x128x256, .f32⟩
  | .local _ .vmem, ⟨0, _⟩ => ⟨S1024x256, .f32⟩
  | .local _ .vmem, ⟨1, _⟩ => ⟨S2048x256, .f32⟩
  | .local _ .vmem, ⟨2, _⟩ => ⟨S8x2048, .f32⟩
  | .local _ .vmem, ⟨3, _⟩ => ⟨S128x8x2048, .f32⟩
  | .local _ .vmem, ⟨4, _⟩ => ⟨S128x8x2048, .f32⟩
  | .local _ .vmem, ⟨5, _⟩ => ⟨S128x1x1x2048, .f32⟩
  | .local _ .vmem, ⟨6, _⟩ => ⟨S128x1x1x2048, .f32⟩
  | .local _ .vmem, ⟨7, _⟩ => ⟨S1x128x256, .f32⟩
  | .local _ .vmem, ⟨8, _⟩ => ⟨S1x128x256, .f32⟩
  | .local _ .vmem, ⟨9, _⟩ => ⟨S128x128, .f32⟩
  | .local _ .vmem, ⟨10, _⟩ => ⟨S2048x256, .f32⟩
  | .local _ .vmem, ⟨11, _⟩ => ⟨S256x2048, .f32⟩
  | .local _ .vmem, ⟨12, _⟩ => ⟨S1x128x256, .f32⟩
  | .local _ .vmem, ⟨13, _⟩ => ⟨S1x128x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v11 : BitVec 32 := Scalar.addi c0_i32 c128_i32
  let c1_i32 : BitVec 32 := 1#32
  ⟨c0_i32, v11, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v15 : Index := Scalar.indexCast arg5
  let c0_11 : Index := 0#32
  let c0_12 : Index := 0#32
  ![v15.toNat, 0, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x128x256 : Shape := ⟨3, ![8, 128, 256]⟩
abbrev S256x2048 : Shape := ⟨2, ![256, 2048]⟩
abbrev S2048x256 : Shape := ⟨2, ![2048, 256]⟩
abbrev S8x2048 : Shape := ⟨2, ![8, 2048]⟩
abbrev S8x256x2048 : Shape := ⟨3, ![8, 256, 2048]⟩
abbrev S128x8x256 : Shape := ⟨3, ![128, 8, 256]⟩
abbrev S_ : Shape := ⟨0, ![]⟩
abbrev S1x8x256 : Shape := ⟨3, ![1, 8, 256]⟩
abbrev S8x256 : Shape := ⟨2, ![8, 256]⟩
abbrev S8 : Shape := ⟨1, ![8]⟩
abbrev S8x1 : Shape := ⟨2, ![8, 1]⟩
abbrev S8x256x1 : Shape := ⟨3, ![8, 256, 1]⟩
abbrev S8x1x2048 : Shape := ⟨3, ![8, 1, 2048]⟩

abbrev nBuf : Space → Nat
  | .hbm => 139
  | .vmem => 0
  | .smem => 0
  | _ => 0

abbrev hbmTy0_0 (i : Nat) : BufTy := match i % 128 with
  | 0 => ⟨S8x128x256, .f32⟩
  | 1 => ⟨S256x2048, .f32⟩
  | 2 => ⟨S2048x256, .f32⟩
  | 3 => ⟨S2048x256, .f32⟩
  | 4 => ⟨S8x2048, .f32⟩
  | 5 => ⟨S8x256x2048, .f32⟩
  | 6 => ⟨S128x8x256, .f32⟩
  | 7 => ⟨S_, .f32⟩
  | 8 => ⟨S128x8x256, .f32⟩
  | 9 => ⟨S_, .i32⟩
  | 10 => ⟨S128x8x256, .f32⟩
  | 11 => ⟨S2048x256, .f32⟩
  | 12 => ⟨S2048x256, .f32⟩
  | 13 => ⟨S256x2048, .f32⟩
  | 14 => ⟨S_, .i32⟩
  | 15 => ⟨S8x2048, .f32⟩
  | 16 => ⟨S8x256x2048, .f32⟩
  | 17 => ⟨S128x8x256, .f32⟩
  | 18 => ⟨S_, .i32⟩
  | 19 => ⟨S_, .i1⟩
  | 20 => ⟨S_, .i32⟩
  | 21 => ⟨S_, .i32⟩
  | 22 => ⟨S1x8x256, .f32⟩
  | 23 => ⟨S8x256, .f32⟩
  | 24 => ⟨S256x2048, .f32⟩
  | 25 => ⟨S8x2048, .f32⟩
  | 26 => ⟨S_, .f32⟩
  | 27 => ⟨S8x2048, .f32⟩
  | 28 => ⟨S8x2048, .f32⟩
  | 29 => ⟨S_, .f32⟩
  | 30 => ⟨S8x2048, .f32⟩
  | 31 => ⟨S8x2048, .f32⟩
  | 32 => ⟨S8x2048, .f32⟩
  | 33 => ⟨S8x2048, .f32⟩
  | 34 => ⟨S_, .f32⟩
  | 35 => ⟨S8, .f32⟩
  | 36 => ⟨S8x1, .f32⟩
  | 37 => ⟨S_, .f32⟩
  | 38 => ⟨S8x1, .f32⟩
  | 39 => ⟨S8x1, .f32⟩
  | 40 => ⟨S8x2048, .f32⟩
  | 41 => ⟨S8x2048, .f32⟩
  | 42 => ⟨S8x256, .f32⟩
  | 43 => ⟨S_, .f32⟩
  | 44 => ⟨S8, .f32⟩
  | 45 => ⟨S8x1, .f32⟩
  | 46 => ⟨S_, .f32⟩
  | 47 => ⟨S8x1, .f32⟩
  | 48 => ⟨S8x1, .f32⟩
  | 49 => ⟨S8x256, .f32⟩
  | 50 => ⟨S8x256, .f32⟩
  | 51 => ⟨S8x256, .f32⟩
  | 52 => ⟨S_, .f32⟩
  | 53 => ⟨S8, .f32⟩
  | 54 => ⟨S8x1, .f32⟩
  | 55 => ⟨S_, .f32⟩
  | 56 => ⟨S8x1, .f32⟩
  | 57 => ⟨S8x1, .f32⟩
  | 58 => ⟨S8x256, .f32⟩
  | 59 => ⟨S8x256, .f32⟩
  | 60 => ⟨S_, .f32⟩
  | 61 => ⟨S8x1, .f32⟩
  | 62 => ⟨S8x1, .f32⟩
  | 63 => ⟨S8x1, .f32⟩
  | 64 => ⟨S8x256, .f32⟩
  | 65 => ⟨S8x256, .f32⟩
  | 66 => ⟨S256x2048, .f32⟩
  | 67 => ⟨S8x2048, .f32⟩
  | 68 => ⟨S_, .f32⟩
  | 69 => ⟨S8x2048, .f32⟩
  | 70 => ⟨S8x2048, .f32⟩
  | 71 => ⟨S_, .f32⟩
  | 72 => ⟨S8x2048, .f32⟩
  | 73 => ⟨S8x2048, .f32⟩
  | 74 => ⟨S8x2048, .f32⟩
  | 75 => ⟨S2048x256, .f32⟩
  | 76 => ⟨S8x256, .f32⟩
  | 77 => ⟨S_, .f32⟩
  | 78 => ⟨S8, .f32⟩
  | 79 => ⟨S8x1, .f32⟩
  | 80 => ⟨S_, .f32⟩
  | 81 => ⟨S8x1, .f32⟩
  | 82 => ⟨S8x1, .f32⟩
  | 83 => ⟨S8x256, .f32⟩
  | 84 => ⟨S8x256, .f32⟩
  | 85 => ⟨S8x256, .f32⟩
  | 86 => ⟨S_, .f32⟩
  | 87 => ⟨S8, .f32⟩
  | 88 => ⟨S8x1, .f32⟩
  | 89 => ⟨S_, .f32⟩
  | 90 => ⟨S8x1, .f32⟩
  | 91 => ⟨S8x1, .f32⟩
  | 92 => ⟨S8x256, .f32⟩
  | 93 => ⟨S8x256, .f32⟩
  | 94 => ⟨S_, .f32⟩
  | 95 => ⟨S8x1, .f32⟩
  | 96 => ⟨S8x1, .f32⟩
  | 97 => ⟨S8x1, .f32⟩
  | 98 => ⟨S8x256, .f32⟩
  | 99 => ⟨S8x256, .f32⟩
  | 100 => ⟨S_, .f32⟩
  | 101 => ⟨S8, .f32⟩
  | 102 => ⟨S8x1, .f32⟩
  | 103 => ⟨S_, .f32⟩
  | 104 => ⟨S8x1, .f32⟩
  | 105 => ⟨S8x1, .f32⟩
  | 106 => ⟨S8x256, .f32⟩
  | 107 => ⟨S8x256, .f32⟩
  | 108 => ⟨S8x256, .f32⟩
  | 109 => ⟨S_, .f32⟩
  | 110 => ⟨S8, .f32⟩
  | 111 => ⟨S8x1, .f32⟩
  | 112 => ⟨S_, .f32⟩
  | 113 => ⟨S8x1, .f32⟩
  | 114 => ⟨S8x1, .f32⟩
  | 115 => ⟨S8x256, .f32⟩
  | 116 => ⟨S8x256, .f32⟩
  | 117 => ⟨S_, .f32⟩
  | 118 => ⟨S8x1, .f32⟩
  | 119 => ⟨S8x1, .f32⟩
  | 120 => ⟨S8x1, .f32⟩
  | 121 => ⟨S8x256, .f32⟩
  | 122 => ⟨S8x256, .f32⟩
  | 123 => ⟨S_, .f32⟩
  | 124 => ⟨S8x256x2048, .f32⟩
  | 125 => ⟨S8x256x2048, .f32⟩
  | 126 => ⟨S8x256x1, .f32⟩
  | 127 => ⟨S8x1x2048, .f32⟩
  | _ => ⟨S8x128x256, .f32⟩

abbrev hbmTy0_1 (i : Nat) : BufTy := match i % 128 with
  | 0 => ⟨S8x256x2048, .f32⟩
  | 1 => ⟨S8x256x2048, .f32⟩
  | 2 => ⟨S8x256x2048, .f32⟩
  | 3 => ⟨S8x256x2048, .f32⟩
  | 4 => ⟨S1x8x256, .f32⟩
  | 5 => ⟨S_, .i32⟩
  | 6 => ⟨S_, .i32⟩
  | 7 => ⟨S128x8x256, .f32⟩
  | 8 => ⟨S_, .i32⟩
  | 9 => ⟨S_, .i32⟩
  | 10 => ⟨S8x128x256, .f32⟩
  | _ => ⟨S8x128x256, .f32⟩

abbrev hbmTy (i : Nat) : BufTy := match i / 128 with
  | 0 => hbmTy0_0 i
  | 1 => hbmTy0_1 i
  | _ => ⟨S8x128x256, .f32⟩

abbrev bufTy : (tb : Table) → Fin (tcTables nBuf tb) → BufTy
  | .hbm, ⟨i, _⟩ => hbmTy i
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_while0c_c_7 : Ref sig .tc := ⟨.hbm, 18, rfl⟩
abbrev main_while0c_v4 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v4 : Ref sig .tc := ⟨.hbm, 23, rfl⟩
abbrev main_while0b_v5 : Ref sig .tc := ⟨.hbm, 24, rfl⟩
abbrev main_while0b_v6 : Ref sig .tc := ⟨.hbm, 25, rfl⟩
abbrev main_while0b_call1_cst : Ref sig .tc := ⟨.hbm, 26, rfl⟩
abbrev main_while0b_call1_v0 : Ref sig .tc := ⟨.hbm, 27, rfl⟩
abbrev main_while0b_v7 : Ref sig .tc := ⟨.hbm, 28, rfl⟩
abbrev main_while0b_cst_7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_cst_8 : Ref sig .tc := ⟨.hbm, 34, rfl⟩
abbrev main_while0b_v12 : Ref sig .tc := ⟨.hbm, 35, rfl⟩
abbrev main_while0b_v13 : Ref sig .tc := ⟨.hbm, 36, rfl⟩
abbrev main_while0b_cst_9 : Ref sig .tc := ⟨.hbm, 37, rfl⟩
abbrev main_while0b_v14 : Ref sig .tc := ⟨.hbm, 38, rfl⟩
abbrev main_while0b_v15 : Ref sig .tc := ⟨.hbm, 39, rfl⟩
abbrev main_while0b_v16 : Ref sig .tc := ⟨.hbm, 40, rfl⟩
abbrev main_while0b_v17 : Ref sig .tc := ⟨.hbm, 41, rfl⟩
abbrev main_while0b_v18 : Ref sig .tc := ⟨.hbm, 42, rfl⟩
abbrev main_while0b_cst_10 : Ref sig .tc := ⟨.hbm, 43, rfl⟩
abbrev main_while0b_v19 : Ref sig .tc := ⟨.hbm, 44, rfl⟩
abbrev main_while0b_v20 : Ref sig .tc := ⟨.hbm, 45, rfl⟩
abbrev main_while0b_cst_11 : Ref sig .tc := ⟨.hbm, 46, rfl⟩
abbrev main_while0b_v21 : Ref sig .tc := ⟨.hbm, 47, rfl⟩
abbrev main_while0b_v22 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_cst_12 : Ref sig .tc := ⟨.hbm, 52, rfl⟩
abbrev main_while0b_v26 : Ref sig .tc := ⟨.hbm, 53, rfl⟩
abbrev main_while0b_v27 : Ref sig .tc := ⟨.hbm, 54, rfl⟩
abbrev main_while0b_cst_13 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_cst_14 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_call2_cst : Ref sig .tc := ⟨.hbm, 68, rfl⟩
abbrev main_while0b_call2_v0 : Ref sig .tc := ⟨.hbm, 69, rfl⟩
abbrev main_while0b_v39 : Ref sig .tc := ⟨.hbm, 70, rfl⟩
abbrev main_while0b_call3_cst : Ref sig .tc := ⟨.hbm, 71, rfl⟩
abbrev main_while0b_call3_v0 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_cst_15 : Ref sig .tc := ⟨.hbm, 77, rfl⟩
abbrev main_while0b_v44 : Ref sig .tc := ⟨.hbm, 78, rfl⟩
abbrev main_while0b_v45 : Ref sig .tc := ⟨.hbm, 79, rfl⟩
abbrev main_while0b_cst_16 : Ref sig .tc := ⟨.hbm, 80, rfl⟩
abbrev main_while0b_v46 : Ref sig .tc := ⟨.hbm, 81, rfl⟩
abbrev main_while0b_v47 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_cst_17 : Ref sig .tc := ⟨.hbm, 86, rfl⟩
abbrev main_while0b_v51 : Ref sig .tc := ⟨.hbm, 87, rfl⟩
abbrev main_while0b_v52 : Ref sig .tc := ⟨.hbm, 88, rfl⟩
abbrev main_while0b_cst_18 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_cst_19 : Ref sig .tc := ⟨.hbm, 94, rfl⟩
abbrev main_while0b_v57 : Ref sig .tc := ⟨.hbm, 95, rfl⟩
abbrev main_while0b_v58 : Ref sig .tc := ⟨.hbm, 96, rfl⟩
abbrev main_while0b_v59 : Ref sig .tc := ⟨.hbm, 97, rfl⟩
abbrev main_while0b_v60 : Ref sig .tc := ⟨.hbm, 98, rfl⟩
abbrev main_while0b_v61 : Ref sig .tc := ⟨.hbm, 99, rfl⟩
abbrev main_while0b_cst_20 : Ref sig .tc := ⟨.hbm, 100, rfl⟩
abbrev main_while0b_v62 : Ref sig .tc := ⟨.hbm, 101, rfl⟩
abbrev main_while0b_v63 : Ref sig .tc := ⟨.hbm, 102, rfl⟩
abbrev main_while0b_cst_21 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_cst_22 : Ref sig .tc := ⟨.hbm, 109, rfl⟩
abbrev main_while0b_v69 : Ref sig .tc := ⟨.hbm, 110, rfl⟩
abbrev main_while0b_v70 : Ref sig .tc := ⟨.hbm, 111, rfl⟩
abbrev main_while0b_cst_23 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_cst_24 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_cst_25 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_call4_v0 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_v88 : Ref sig .tc := ⟨.hbm, 135, rfl⟩
abbrev main_while0b_c_26 : Ref sig .tc := ⟨.hbm, 136, rfl⟩
abbrev main_while0b_v89 : Ref sig .tc := ⟨.hbm, 137, rfl⟩
abbrev main_v3 : Ref sig .tc := ⟨.hbm, 138, rfl⟩

abbrev nD : Nat := 1
abbrev τ : Topo := Topo.v7x

variable {F : FTy → Type} [FloatOps F]

abbrev main_while0_count : Scf.Loop 32 := ⟨0#32, 128#32, 1#32⟩
-- ==== TableKernel.lean ====
abbrev S8x128x256 : Shape := ⟨3, ![8, 128, 256]⟩
abbrev S256x2048 : Shape := ⟨2, ![256, 2048]⟩
abbrev S2048x256 : Shape := ⟨2, ![2048, 256]⟩
abbrev S8x2048 : Shape := ⟨2, ![8, 2048]⟩
abbrev S8x256x2048 : Shape := ⟨3, ![8, 256, 2048]⟩
abbrev S128x128 : Shape := ⟨2, ![128, 128]⟩
abbrev S128x8x256 : Shape := ⟨3, ![128, 8, 256]⟩
abbrev S1024x256 : Shape := ⟨2, ![1024, 256]⟩
abbrev S128x8x2048 : Shape := ⟨3, ![128, 8, 2048]⟩
abbrev S1024x2048 : Shape := ⟨2, ![1024, 2048]⟩
abbrev S1x8x2048 : Shape := ⟨3, ![1, 8, 2048]⟩
abbrev S8 : Shape := ⟨1, ![8]⟩
abbrev S8x1 : Shape := ⟨2, ![8, 1]⟩
abbrev S128x8x1x2048 : Shape := ⟨4, ![128, 8, 1, 2048]⟩
abbrev S128x1x1x2048 : Shape := ⟨4, ![128, 1, 1, 2048]⟩
abbrev S1x128x256 : Shape := ⟨3, ![1, 128, 256]⟩
abbrev S128x2048 : Shape := ⟨2, ![128, 2048]⟩
abbrev S128x256 : Shape := ⟨2, ![128, 256]⟩
abbrev S128 : Shape := ⟨1, ![128]⟩
abbrev S128x1 : Shape := ⟨2, ![128, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x128x256, .f32⟩
  | .hbm, ⟨1, _⟩ => ⟨S256x2048, .f32⟩
  | .hbm, ⟨2, _⟩ => ⟨S2048x256, .f32⟩
  | .hbm, ⟨3, _⟩ => ⟨S2048x256, .f32⟩
  | .hbm, ⟨4, _⟩ => ⟨S8x2048, .f32⟩
  | .hbm, ⟨5, _⟩ => ⟨S8x256x2048, .f32⟩
  | .hbm, ⟨6, _⟩ => ⟨S128x128, .f32⟩
  | .hbm, ⟨7, _⟩ => ⟨S128x8x256, .f32⟩
  | .hbm, ⟨8, _⟩ => ⟨S1024x256, .f32⟩
  | .hbm, ⟨9, _⟩ => ⟨S128x8x2048, .f32⟩
  | .hbm, ⟨10, _⟩ => ⟨S128x8x1x2048, .f32⟩
  | .hbm, ⟨11, _⟩ => ⟨S8x128x256, .f32⟩
  | .local _ .vmem, ⟨0, _⟩ => ⟨S1024x256, .f32⟩
  | .local _ .vmem, ⟨1, _⟩ => ⟨S2048x256, .f32⟩
  | .local _ .vmem, ⟨2, _⟩ => ⟨S8x2048, .f32⟩
  | .local _ .vmem, ⟨3, _⟩ => ⟨S128x8x2048, .f32⟩
  | .local _ .vmem, ⟨4, _⟩ => ⟨S128x8x2048, .f32⟩
  | .local _ .vmem, ⟨5, _⟩ => ⟨S128x1x1x2048, .f32⟩
  | .local _ .vmem, ⟨6, _⟩ => ⟨S128x1x1x2048, .f32⟩
  | .local _ .vmem, ⟨7, _⟩ => ⟨S1x128x256, .f32⟩
  | .local _ .vmem, ⟨8, _⟩ => ⟨S1x128x256, .f32⟩
  | .local _ .vmem, ⟨9, _⟩ => ⟨S128x128, .f32⟩
  | .local _ .vmem, ⟨10, _⟩ => ⟨S2048x256, .f32⟩
  | .local _ .vmem, ⟨11, _⟩ => ⟨S256x2048, .f32⟩
  | .local _ .vmem, ⟨12, _⟩ => ⟨S1x128x256, .f32⟩
  | .local _ .vmem, ⟨13, _⟩ => ⟨S1x128x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v11 : BitVec 32 := Scalar.addi c0_i32 c128_i32
  let c1_i32 : BitVec 32 := 1#32
  ⟨c0_i32, v11, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v15 : Index := Scalar.indexCast arg5
  let c0_11 : Index := 0#32
  let c0_12 : Index := 0#32
  ![v15.toNat, 0, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Proof.KernelRun.lean ====
/-
  The kernel program's run, read at its result: the result array ends at the contents the second kernel's
  region leaves in it, and the argument arrays end as they were launched.
-/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer that outlives the kernels at its last boundary's contents; here the
    result array and the arguments are read off. -/
theorem run : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelRun

end
-- ==== Proof.Recurrence.lean ====
/-
  The recurrence both programs compute, written once with plain indices over the extended reals: the layer
  normalisation, the state's step, the memory the reference carries and the masked Gram product the kernel uses.
  Nothing here mentions a program.
-/
module

public import Idealize.ShloMosaic.PureOps.Ideal

@[expose] public section

noncomputable section

namespace Cert.Recurrence

open Idealize.ShloMosaic

/-- The decay of the state and of the memory: the f32 nearest to 0.97. -/
def decay : EReal := Ideal.ofBits .f32 0x3F7851EC#32
/-- What the layer normalisation adds to the variance. -/
def lnEps : EReal := Ideal.ofBits .f32 0x3727C5AC#32
/-- The least divisor of the state's normalisation. -/
def l1Eps : EReal := Ideal.ofBits .f32 0x2B8CBCCC#32
/-- The number of lanes a layer normalisation averages over, 256. -/
def width : EReal := Ideal.ofBits .f32 0x43800000#32

/-- The mean of a row. -/
def mean (v : Fin 256 → EReal) : EReal := Ideal.div (∑ d, v d) width

/-- The mean square distance of a row from its mean. -/
def variance (v : Fin 256 → EReal) : EReal := Ideal.div (∑ d, (v d - mean v) * (v d - mean v)) width

/-- The layer normalisation of a row, read at a lane. -/
def layerNorm (v : Fin 256 → EReal) (d : Fin 256) : EReal := (v d - mean v) * Ideal.rsqrt (variance v + lnEps)

/-- What the embedding row `e` feeds into lane `n` of the state. -/
def drive (e : Fin 256 → EReal) (Dx : Fin 2048 → Fin 256 → EReal) (n : Fin 2048) : EReal := max (∑ d, e d * Dx n d) 0

/-- The decayed state with its drive added, before it is normalised. -/
def raw (x u : Fin 2048 → EReal) (n : Fin 2048) : EReal := decay * x n + u n

/-- One step of the state: `raw` divided by its absolute sum, or by `l1Eps` where that sum is smaller. -/
def advance (x u : Fin 2048 → EReal) (n : Fin 2048) : EReal :=
  Ideal.div (raw x u n) (max (∑ k, max (raw x u k) (-(raw x u k))) l1Eps)

/-- The state after `t` steps from `x₀` under the drives `u`. -/
def state (u : ℕ → Fin 2048 → EReal) (x₀ : Fin 2048 → EReal) : ℕ → Fin 2048 → EReal
  | 0 => x₀
  | t + 1 => advance (state u x₀ t) (u t)

/-- The memory after `t` steps from zero: decayed, and at each step the outer product of `v` and `x` added. -/
def memory (v : ℕ → Fin 256 → EReal) (x : ℕ → Fin 2048 → EReal) : ℕ → Fin 256 → Fin 2048 → EReal
  | 0 => fun _ _ => 0
  | t + 1 => fun d n => decay * memory v x t d n + v t d * x t n

/-- The reference's attention at step `t`: the memory contracted with the state. -/
def attend (v : ℕ → Fin 256 → EReal) (x : ℕ → Fin 2048 → EReal) (t : ℕ) (d : Fin 256) : EReal :=
  ∑ n, memory v x t d n * x t n

/-- The weight step `s` has in step `t`: the decay to the power `t - 1 - s` for earlier steps, zero otherwise. -/
def weight (t s : ℕ) : EReal := if s < t then Ideal.pow decay (((t - 1 - s : ℕ) : ℝ) : EReal) else 0

/-- The kernel's attention at step `t`: the masked Gram matrix of the states, times the normalised embeddings. -/
def gramAttend (v : ℕ → Fin 256 → EReal) (x : ℕ → Fin 2048 → EReal) (t : ℕ) (d : Fin 256) : EReal :=
  ∑ s : Fin 128, (weight t s * ∑ n, x t n * x s n) * v s d

/-- The result row of a step, from its attention `a` and its state `x`. -/
def readout (Dy : Fin 2048 → Fin 256 → EReal) (E : Fin 256 → Fin 2048 → EReal) (a : Fin 256 → EReal)
    (x : Fin 2048 → EReal) (d : Fin 256) : EReal :=
  layerNorm (fun d => ∑ n, (max (∑ k, layerNorm a k * Dy n k) 0 * max (x n) 0) * E d n) d

end Cert.Recurrence

end
-- ==== Proof.ScanBlock.lean ====
/-
  What the scan kernel's arithmetic gives at an index: the drives it computes before its loop and the state one trip
  of the loop makes.
-/
module

public import proofs.«01_k».proof.Proof.Gen.KernelIdeal.Skeleton
public import proofs.«01_k».proof.Proof.Recurrence
public import Idealize.ShloMosaic.Lib.Pointwise

@[expose] public section

set_option maxRecDepth 16384

noncomputable section

namespace Cert.ScanBlock

open Idealize.ShloMosaic Cert.KernelIdeal Cert.KernelIdeal.Gen Cert.Recurrence

/-- Row `8 t + b` of the flattened embeddings: batch row `b` at step `t`. -/
abbrev flatRow (t : Fin 128) (b : Fin 8) : Fin 1024 := ⟨t.val * 8 + b.val, by omega⟩

/-- The drives: at step `t`, batch row `b`, lane `n` the drive of that embedding row. -/
theorem drives_apply (e : FVec Ideal S1024x256 .f32) (Dx : FVec Ideal S2048x256 .f32) (t : Fin 128) (b : Fin 8) (n : Fin 2048) :
    k0_pay1 (F := Ideal) e Dx (ix3 t b n) = drive (fun d => e (ix2 (flatRow t b) d)) (fun n d => Dx (ix2 n d)) n := by
  unfold drive
  pointwise [k0_pay1]

/-- One trip's state: the state before it advanced by the trip's drive. -/
theorem trip_apply (x : FVec Ideal S8x2048 .f32) (u : FVec Ideal S1x8x2048 .f32) (b : Fin 8) (n : Fin 2048) :
    k0_pay2 (F := Ideal) x u (ix2 b n) = advance (fun n => x (ix2 b n)) (fun n => u (ix3 0 b n)) n := by
  unfold advance raw decay l1Eps
  pointwise [k0_pay2, Ideal.absf_def]

/-- The stored copy of the trip's state is that state. -/
theorem stored_apply (x : FVec Ideal S8x2048 .f32) (u : FVec Ideal S1x8x2048 .f32) (i : Fin 1) (b : Fin 8) (n : Fin 2048) :
    k0_pay3 (F := Ideal) x u (ix3 i b n) = k0_pay2 (F := Ideal) x u (ix2 b n) := by
  pointwise [k0_pay3]

end Cert.ScanBlock

end
-- ==== Proof.ScanTrip.lean ====
/-
  The scan kernel's loop: what its trips carry and what they store, as the recurrence of the state.
-/
module

public import proofs.«01_k».proof.Proof.Gen.KernelIdeal.Frame
public import proofs.«01_k».proof.Proof.ScanBlock
public import Idealize.ShloMosaic.Lib.Pipeline.Value

@[expose] public section

set_option maxRecDepth 16384

noncomputable section

namespace Cert.ScanTrip

open Idealize.ShloMosaic Cert.KernelIdeal Cert.KernelIdeal.Gen Cert.Recurrence

/-- The drives of batch row `b` read out of the array the scan loops over; past its last step, zero. -/
def driveOf (u : FVec Ideal S128x8x2048 .f32) (b : Fin 8) (t : ℕ) (n : Fin 2048) : EReal :=
  if h : t < 128 then u (ix3 ⟨t, h⟩ b n) else 0

/-- The array the scan's stores make: at step `t` the state after that step. -/
def scanned (u : FVec Ideal S128x8x2048 .f32) (x₀ : FVec Ideal S8x2048 .f32) : FVec Ideal S128x8x2048 .f32 :=
  fun i => state (driveOf u (i 1)) (fun n => x₀ (ix2 (i 1) n)) ((i 0).val + 1) (i 2)

/-- The loop runs 128 trips. -/
theorem trips_eq : k0_t1_loop.trips = 128 := by decide +kernel

/-- Where trip `k` loads and stores: row `k` of the array. -/
theorem row_emb (k : Fin k0_t1_loop.trips) (hk : k.val < 128) (i : Fin 1) (b : Fin 8) (n : Fin 2048) :
    (Rect.unit (s := S128x8x2048) (k0_off1 k) S1x8x2048.size (k0_off1_inb k)).emb (ix3 i b n) = ix3 ⟨k.val, hk⟩ b n := by
  funext a
  apply Fin.ext
  have e := congrFun (k0_off1_eq k) a
  show k0_off1 k a + 1 * (ix3 i b n a).val = _
  rw [e]
  fin_cases a
  · show k.val + 1 * i.val = k.val; omega
  · show 0 + 1 * b.val = b.val; omega
  · show 0 + 1 * n.val = n.val; omega

section

variable (𝒱 : Variants) (c : Dev nD) (bd : Option 𝒱.V)
  (arg0 : Memref sig .tc .vmem S1024x256 .f32) (harg0 : arg0.IsWhole)
  (arg1 : Memref sig .tc .vmem S2048x256 .f32) (harg1 : arg1.IsWhole)
  (arg2 : Memref sig .tc .vmem S8x2048 .f32) (harg2 : arg2.IsWhole)
  (arg3 : Memref sig .tc .vmem S128x8x2048 .f32) (harg3 : arg3.IsWhole)
  (arg4 : Memref sig .tc .vmem S128x8x2048 .f32) (harg4 : arg4.IsWhole)
  (X : BufTy.Contents (Elt Ideal) arg4.view.ty)

/-- The row of drives trip `k` loads. -/
abbrev loaded (k : Fin k0_t1_loop.trips) : Vec Ideal S1x8x2048 .f32 :=
  View.readAt (Elt Ideal) arg4.view (Rect.unit (s := S128x8x2048) (k0_off1 k) S1x8x2048.size (k0_off1_inb k)).toLoadRect X

/-- Trip `k` yields the next state. -/
theorem tripR_eq (k : Fin k0_t1_loop.trips) (acc : Vec Ideal S8x2048 .f32) :
    tripR_k0_t1 (F := Ideal) 𝒱 c bd arg0 harg0 arg1 harg1 arg2 harg2 arg3 harg3 arg4 harg4 X k acc
      = k0_pay2 (F := Ideal) acc (loaded arg4 X k) := by
  unfold tripR_k0_t1 trip_k0_t1; rfl

/-- Trip `k` stores that state in row `k` of the result. -/
theorem tripL_eq (k : Fin k0_t1_loop.trips) (acc : Vec Ideal S8x2048 .f32) :
    tripL_k0_t1 (F := Ideal) 𝒱 c bd arg0 harg0 arg1 harg1 arg2 harg2 arg3 harg3 arg4 harg4 X k acc
      = [⟨Rect.unit (s := S128x8x2048) (k0_off1 k) S1x8x2048.size (k0_off1_inb k), k0_pay3 (F := Ideal) acc (loaded arg4 X k)⟩] := by
  unfold tripL_k0_t1 trip_k0_t1; rfl

/-- The row of drives trip `k` loads, at an index. -/
theorem loaded_apply (k : Fin k0_t1_loop.trips) (i : Fin 1) (b : Fin 8) (n : Fin 2048) :
    loaded arg4 X k (ix3 i b n) = driveOf (arg4.view.read (Elt Ideal) X) b k.val n := by
  have hk : k.val < 128 := Nat.lt_of_lt_of_le k.isLt k0_t1_abs.2.1
  unfold driveOf
  rw [dif_pos hk]
  show arg4.view.read (Elt Ideal) X ((Rect.unit (s := S128x8x2048) (k0_off1 k) S1x8x2048.size (k0_off1_inb k)).emb (ix3 i b n)) = _
  rw [row_emb k hk]

/-- Before trip `k` the loop carries the state after `k` steps, and every store so far holds the scanned array's
    elements at its place. -/
theorem st_eq (x₀ : FVec Ideal S8x2048 .f32) (k : ℕ) (hk : k ≤ 128) :
    (∀ b n, (st_k0_t1 (F := Ideal) 𝒱 c bd arg0 harg0 arg1 harg1 arg2 harg2 arg3 harg3 arg4 harg4 X x₀ k).1 (ix2 b n)
        = state (driveOf (arg4.view.read (Elt Ideal) X) b) (fun n => x₀ (ix2 b n)) k n)
      ∧ ∀ p ∈ (st_k0_t1 (F := Ideal) 𝒱 c bd arg0 harg0 arg1 harg1 arg2 harg2 arg3 harg3 arg4 harg4 X x₀ k).2,
          ∀ x, p.2 x = scanned (arg4.view.read (Elt Ideal) X) x₀ (p.1.emb x) := by
  induction k with
  | zero => exact ⟨fun b n => rfl, fun p hp => absurd hp List.not_mem_nil⟩
  | succ k ih =>
    obtain ⟨ihv, ihp⟩ := ih (by omega)
    have hlt : k < k0_t1_loop.trips := by rw [trips_eq]; omega
    have hs := st_k0_t1_succ (F := Ideal) 𝒱 c bd arg0 harg0 arg1 harg1 arg2 harg2 arg3 harg3 arg4 harg4 X x₀ ⟨k, hlt⟩
    rw [tripR_eq, tripL_eq] at hs
    dsimp only at hs
    have hv : ∀ b n, k0_pay2 (F := Ideal)
        (st_k0_t1 (F := Ideal) 𝒱 c bd arg0 harg0 arg1 harg1 arg2 harg2 arg3 harg3 arg4 harg4 X x₀ k).1
        (loaded arg4 X ⟨k, hlt⟩) (ix2 b n)
          = state (driveOf (arg4.view.read (Elt Ideal) X) b) (fun n => x₀ (ix2 b n)) (k + 1) n := by
      intro b n
      rw [ScanBlock.trip_apply]
      simp only [ihv, loaded_apply]
      rfl
    rw [hs]
    refine ⟨hv, fun p hp => ?_⟩
    rcases List.mem_append.mp hp with hp | hp
    · obtain rfl := List.mem_singleton.mp hp
      intro x
      rw [eq_ix3 x]
      erw [row_emb ⟨k, hlt⟩ (show k < 128 by omega)]
      exact (ScanBlock.stored_apply _ _ _ _ _).trans (hv _ _)
    · exact ihp p hp

end

end Cert.ScanTrip

end
-- ==== Proof.ScanValue.lean ====
/-
  The scan kernel's result array: every step's state.
-/
module

public import proofs.«01_k».proof.Proof.ScanTrip
public import Idealize.ShloMosaic.Lib.Pipeline.ValueKit.Geometry
public import Idealize.ShloMosaic.Lib.VecWindow

@[expose] public section

set_option maxRecDepth 16384

noncomputable section

namespace Cert.ScanValue

open Idealize.ShloMosaic Idealize.ShloMosaic.TcCoe Cert.KernelIdeal Cert.KernelIdeal.Gen Cert.Recurrence Cert.ScanTrip

theorem hz : (![0, 0] : Fin 2 → Nat) = fun _ => 0 := funext fun a => by fin_cases a <;> rfl
theorem hz3 : (![0, 0, 0] : Fin 3 → Nat) = fun _ => 0 := funext fun a => by fin_cases a <;> rfl

/-- A load of a whole buffer gives its contents. -/
theorem readAt_whole {S : Shape} {off : Fin S.rank → Nat} (h : off = fun _ => 0) (inb : ∀ a, off a + S.size a ≤ S.size a)
    (arg : Memref sig .tc .vmem S .f32) (harg : arg.IsWhole) (x : FVec Ideal S .f32) :
    View.readAt (Elt Ideal) arg.view (Rect.unit off S.size inb).toLoadRect (harg.unread x) = x := by
  rw [View.readAt_eq_ld, harg.read_unread]
  exact View.ld_unit_zero (Val := Elt Ideal) (e := .f32) (S := S) h inb x

/-- What the scan's body leaves in its result block: the scanned array of the drives it computes from its blocks. -/
theorem out_eq (c : Dev nD)
    (arg0 : Memref sig .tc .vmem S1024x256 .f32) (harg0 : arg0.IsWhole)
    (arg1 : Memref sig .tc .vmem S2048x256 .f32) (harg1 : arg1.IsWhole)
    (arg2 : Memref sig .tc .vmem S8x2048 .f32) (harg2 : arg2.IsWhole)
    (arg3 : Memref sig .tc .vmem S128x8x2048 .f32) (harg3 : arg3.IsWhole)
    (arg4 : Memref sig .tc .vmem S128x8x2048 .f32) (harg4 : arg4.IsWhole)
    (x0 : FVec Ideal S1024x256 .f32) (x1 : FVec Ideal S2048x256 .f32) (x2 : FVec Ideal S8x2048 .f32) :
    out0_A_3 (F := Ideal) c arg0 harg0 arg1 harg1 arg2 harg2 arg3 harg3 arg4 harg4 x0 x1 x2
      = scanned (k0_pay1 (F := Ideal) x0 x1) x2 := by
  unfold out0_A_3
  rw [View.read_writes_eq_canon _ _ _ (cover0_A_3 (F := Ideal) c arg0 harg0 arg1 harg1 arg2 harg2 arg3 harg3 arg4 harg4 x0 x1 x2)]
  funext y
  refine View.canon_apply_of_pieces _ _ ?_ y (cover0_A_3 (F := Ideal) c arg0 harg0 arg1 harg1 arg2 harg2 arg3 harg3 arg4 harg4 x0 x1 x2 y)
  have h := (st_eq Variants.none c none arg0 harg0 arg1 harg1 arg2 harg2 arg3 harg3 arg4 harg4
    (arg4.view.writes (Elt Ideal) arg4.view.junk (kernelRun0_A.sl.HS0_1 c arg0 harg0 arg1 harg1 x0 x1)) x2
    k0_t1_loop.trips (by rw [trips_eq])).2
  have hX : arg4.view.read (Elt Ideal) (arg4.view.writes (Elt Ideal) arg4.view.junk (kernelRun0_A.sl.HS0_1 c arg0 harg0 arg1 harg1 x0 x1))
      = k0_pay1 (F := Ideal) x0 x1 := by
    unfold kernelRun0_A.sl.HS0_1
    rw [readAt_whole hz, readAt_whole hz]
    exact View.read_writes_full _ _ _ _ _
  have hx : View.readAt (Elt Ideal) arg2.view (Rect.unit ![0, 0] ![8, 2048] inb_S8x2048_S8x2048_0_0).toLoadRect (harg2.unread x2) = x2 :=
    readAt_whole (S := S8x2048) hz _ arg2 harg2 x2
  rw [hX] at h
  unfold kernelRun0_A
  dsimp only
  rw [hx]
  exact h

variable (V : (c : Dev nD) → (b : Ref sig .tc) → Buf (Elt Ideal) ((c : Thread nD τ).loc b))

/-- The scan's grid has one point, and each of its windows stands at index 0 there. -/
theorem index_0 : ∀ (t : Fin cfg0.N) a, win0_0.index t a = 0 := fun _ _ => rfl
theorem index_1 : ∀ (t : Fin cfg0.N) a, win0_1.index t a = 0 := fun _ _ => rfl
theorem index_2 : ∀ (t : Fin cfg0.N) a, win0_2.index t a = 0 := fun _ _ => rfl
theorem index_3 : ∀ (t : Fin cfg0.N) a, win0_3.index t a = 0 := fun _ _ => rfl

/-- The scan's windows are whole arrays: its first block is the flattened embeddings, -/
theorem block_0 (c : Dev nD) (t : Fin cfg0.N) : iblk0 (F := Ideal) V c 0 t = V c main_v1 := by
  funext x
  blk_simp [iblk0]
  refine congrArg (V c main_v1) ?_
  blk_ext [index_0]
/-- its second the drive's weights, -/
theorem block_1 (c : Dev nD) (t : Fin cfg0.N) : iblk0 (F := Ideal) V c 1 t = V c main_arg2 := by
  funext x
  blk_simp [iblk0]
  refine congrArg (V c main_arg2) ?_
  blk_ext [index_1]
/-- its third the states at the start. -/
theorem block_2 (c : Dev nD) (t : Fin cfg0.N) : iblk0 (F := Ideal) V c 2 t = V c main_arg4 := by
  funext x
  blk_simp [iblk0]
  refine congrArg (V c main_arg4) ?_
  blk_ext [index_2]

/-- The array the scan's region leaves: the scanned array of what it finds in its three input arrays. -/
theorem array_eq (c : Dev nD) :
    (dat0 (F := Ideal) V c).arrAt 3 cfg0.N
      = scanned (k0_pay1 (F := Ideal) (V c main_v1) (V c main_arg2)) (V c main_arg4) := by
  refine (dat0 (F := Ideal) V c).arrAt_eq_of_covers 3 _ (by decide +kernel) fun t hf y => ?_
  blk_simp
  rw [after0_3]
  unfold outsAt0
  rw [out_eq, block_0, block_1, block_2]
  refine congrArg (scanned _ _) ?_
  blk_ext [index_3]

end Cert.ScanValue

end
-- ==== Proof.AttnBlock.lean ====
/-
  What the attention kernel's arithmetic gives at an index, from the blocks it loads.
-/
module

public import proofs.«01_k».proof.Proof.Gen.KernelIdeal.Skeleton
public import proofs.«01_k».proof.Proof.Recurrence
public import Idealize.ShloMosaic.Lib.Pointwise

@[expose] public section

set_option maxRecDepth 16384

noncomputable section

namespace Cert.AttnBlock

open Idealize.ShloMosaic Cert.KernelIdeal Cert.KernelIdeal.Gen Cert.Recurrence

/-- The states' block with its unit axes dropped. -/
theorem states_apply (x : FVec Ideal S128x1x1x2048 .f32) (t : Fin 128) (n : Fin 2048) :
    k1_pay2 (F := Ideal) x (ix2 t n) = x (ix4 t 0 0 n) := by
  pointwise [k1_pay2]

/-- The attention block: the mask times the Gram matrix of the states, contracted with the normalised embeddings. -/
theorem attention_apply (x : FVec Ideal S128x1x1x2048 .f32) (e : FVec Ideal S1x128x256 .f32) (w : FVec Ideal S128x128 .f32)
    (t : Fin 128) (d : Fin 256) :
    k1_pay3 (F := Ideal) x e w (ix2 t d)
      = ∑ s : Fin 128, (w (ix2 t s) * ∑ n : Fin 2048, x (ix4 t 0 0 n) * x (ix4 s 0 0 n)) * layerNorm (fun d => e (ix3 0 s d)) d := by
  unfold layerNorm variance mean width lnEps
  pointwise [k1_pay3, k1_pay2]

/-- The attention rows' means. -/
theorem attentionMean_apply (x : FVec Ideal S128x1x1x2048 .f32) (e : FVec Ideal S1x128x256 .f32) (w : FVec Ideal S128x128 .f32)
    (t : Fin 128) (i : Fin 1) : k1_pay4 (F := Ideal) x e w (ix2 t i) = mean (fun d => k1_pay3 (F := Ideal) x e w (ix2 t d)) := by
  unfold mean width
  pointwise [k1_pay4]

/-- The attention rows' variances. -/
theorem attentionVariance_apply (x : FVec Ideal S128x1x1x2048 .f32) (e : FVec Ideal S1x128x256 .f32) (w : FVec Ideal S128x128 .f32)
    (t : Fin 128) (i : Fin 1) : k1_pay5 (F := Ideal) x e w (ix2 t i) = variance (fun d => k1_pay3 (F := Ideal) x e w (ix2 t d)) := by
  unfold variance mean width
  pointwise [k1_pay5, k1_pay4]

/-- The result block, from an attention block, its means and variances, the states and the two read-out matrices. -/
theorem result_apply (x : FVec Ideal S128x2048 .f32) (a : FVec Ideal S128x256 .f32) (μ ν : FVec Ideal S128x1 .f32)
    (Dy : FVec Ideal S2048x256 .f32) (E : FVec Ideal S256x2048 .f32) (t : Fin 128)
    (hμ : μ (ix2 t 0) = mean (fun d => a (ix2 t d))) (hν : ν (ix2 t 0) = variance (fun d => a (ix2 t d)))
    (i : Fin 1) (d : Fin 256) :
    k1_pay1 (F := Ideal) x a μ ν Dy E (ix3 i t d)
      = readout (fun n d => Dy (ix2 n d)) (fun d n => E (ix2 d n)) (fun d => a (ix2 t d)) (fun n => x (ix2 t n)) d := by
  have hln : ∀ k, layerNorm (fun d => a (ix2 t d)) k = (a (ix2 t k) - μ (ix2 t 0)) * Ideal.rsqrt (ν (ix2 t 0) + lnEps) := by
    intro k; rw [hμ, hν]; rfl
  unfold readout
  simp only [hln]
  unfold layerNorm variance mean width lnEps
  pointwise [k1_pay1]

end Cert.AttnBlock

end
-- ==== Proof.AttnValue.lean ====
/-
  The attention kernel's result array: in batch row `b`, at step `t`, the read-out of the masked Gram product.
-/
module

public import proofs.«01_k».proof.Proof.Gen.KernelIdeal.Frame
public import proofs.«01_k».proof.Proof.AttnBlock
public import Idealize.ShloMosaic.Lib.Pipeline.Value
public import Idealize.ShloMosaic.Lib.Pipeline.ValueKit.Geometry

@[expose] public section

set_option maxRecDepth 16384

noncomputable section

namespace Cert.AttnValue

open Idealize.ShloMosaic Idealize.ShloMosaic.TcCoe Cert.KernelIdeal Cert.KernelIdeal.Gen Cert.Recurrence

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block one grid point stores, at an index. -/
theorem out_apply (x : FVec Ideal S128x1x1x2048 .f32) (e : FVec Ideal S1x128x256 .f32) (w : FVec Ideal S128x128 .f32)
    (Dy : FVec Ideal S2048x256 .f32) (E : FVec Ideal S256x2048 .f32) (i : Fin 1) (t : Fin 128) (d : Fin 256) :
    out1_5 (F := Ideal) x e w Dy E (ix3 i t d)
      = readout (fun n d => Dy (ix2 n d)) (fun d n => E (ix2 d n))
          (fun d => ∑ s : Fin 128, (w (ix2 t s) * ∑ n, x (ix4 t 0 0 n) * x (ix4 s 0 0 n)) * layerNorm (fun d => e (ix3 0 s d)) d)
          (fun n => x (ix4 t 0 0 n)) d := by
  unfold out1_5
  rw [View.canon_unit_zero hz3, View.ld_unit_zero hz4, View.ld_unit_zero hz3, View.ld_unit_zero hz2, View.ld_unit_zero hz2,
    View.ld_unit_zero hz2]
  rw [AttnBlock.result_apply _ _ _ _ _ _ t (AttnBlock.attentionMean_apply x e w t 0) (AttnBlock.attentionVariance_apply x e w t 0) i d]
  simp only [AttnBlock.states_apply, AttnBlock.attention_apply]

variable (V : (c : Dev nD) → (b : Ref sig .tc) → Buf (Elt Ideal) ((c : Thread nD τ).loc b))

/-- At grid point `t` the states' window stands at batch row `t`, -/
theorem index_0 : ∀ t : Fin cfg1.N, win1_0.index t = ![0, t.val, 0, 0] := (by decide +kernel : ∀ t : Fin grid1.N, _)
/-- the embeddings' too, -/
theorem index_1 : ∀ t : Fin cfg1.N, win1_1.index t = ![t.val, 0, 0] := (by decide +kernel : ∀ t : Fin grid1.N, _)
/-- the mask and the weights are whole, -/
theorem index_2 : ∀ t : Fin cfg1.N, win1_2.index t = ![0, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)
/-- and the result's window stands at batch row `t`. -/
theorem index_5 : ∀ t : Fin cfg1.N, win1_5.index t = ![t.val, 0, 0] := (by decide +kernel : ∀ t : Fin grid1.N, _)

/-- The batch row of a grid point. -/
abbrev batch (p : Fin cfg1.N) : Fin 8 := ⟨p.val, lt_of_lt_of_eq p.isLt (by decide +kernel)⟩

/-- The blocks of grid point `p`: the states of its batch row, -/
theorem block_0 (c : Dev nD) (p : Fin cfg1.N) (t : Fin 128) (n : Fin 2048) :
    (iblk1 (F := Ideal) V c 0 p : FVec Ideal S128x1x1x2048 .f32) (ix4 t 0 0 n) = V c main_v3 (ix4 t (batch p) 0 n) := by
  blk_simp [iblk1]
  refine congrArg (V c main_v3) ?_
  blk_ext [index_0]
/-- its embeddings, -/
theorem block_1 (c : Dev nD) (p : Fin cfg1.N) (t : Fin 128) (d : Fin 256) :
    (iblk1 (F := Ideal) V c 1 p : FVec Ideal S1x128x256 .f32) (ix3 0 t d) = V c main_arg0 (ix3 (batch p) t d) := by
  blk_simp [iblk1]
  refine congrArg (V c main_arg0) ?_
  blk_ext [index_1]
/-- the mask, -/
theorem block_2 (c : Dev nD) (p : Fin cfg1.N) : iblk1 (F := Ideal) V c 2 p = V c main_v13 := by
  funext x
  blk_simp [iblk1]
  refine congrArg (V c main_v13) ?_
  blk_ext [index_2]
/-- and the two weights. -/
theorem block_3 (c : Dev nD) (p : Fin cfg1.N) : iblk1 (F := Ideal) V c 3 p = V c main_arg3 := by
  funext x
  blk_simp [iblk1]
  refine congrArg (V c main_arg3) ?_
  blk_ext [index_3]
theorem block_4 (c : Dev nD) (p : Fin cfg1.N) : iblk1 (F := Ideal) V c 4 p = V c main_arg1 := by
  funext x
  blk_simp [iblk1]
  refine congrArg (V c main_arg1) ?_
  blk_ext [index_4]

/-- The array of read-outs, from the arrays the kernel reads. -/
def readouts (x : FVec Ideal S128x8x1x2048 .f32) (e : FVec Ideal S8x128x256 .f32) (w : FVec Ideal S128x128 .f32)
    (Dy : FVec Ideal S2048x256 .f32) (E : FVec Ideal S256x2048 .f32) : FVec Ideal S8x128x256 .f32 := fun i =>
  readout (fun n d => Dy (ix2 n d)) (fun d n => E (ix2 d n))
    (fun d => ∑ s : Fin 128, (w (ix2 (i 1) s) * ∑ n, x (ix4 (i 1) (i 0) 0 n) * x (ix4 s (i 0) 0 n))
      * layerNorm (fun d => e (ix3 (i 0) s d)) d)
    (fun n => x (ix4 (i 1) (i 0) 0 n)) (i 2)

/-- What grid point `p` stores is its batch row of that array. -/
theorem stored_eq (c : Dev nD) (p : Fin cfg1.N) (i : Fin 1) (t : Fin 128) (d : Fin 256) :
    out1_5 (F := Ideal) (iblk1 V c 0 p) (iblk1 V c 1 p) (iblk1 V c 2 p) (iblk1 V c 3 p) (iblk1 V c 4 p) (ix3 i t d)
      = readouts (V c main_v3) (V c main_arg0) (V c main_v13) (V c main_arg3) (V c main_arg1) (ix3 (batch p) t d) := by
  rw [block_2, block_3, block_4, out_apply]
  simp only [block_0, block_1]
  rfl

/-- Where grid point `p`'s block stands in the array. -/
theorem block_emb (p : Fin cfg1.N) (i : Fin 1) (t : Fin 128) (d : Fin 256) :
    (win1_5.blk p).view.emb (ix3 i t d) = ix3 (batch p) t d := by
  blk_ext [index_5]

/-- So what grid point `p` stores is the array of read-outs read through its block. -/
theorem stored_block (c : Dev nD) (p : Fin cfg1.N) (y : S1x128x256.Idx) :
    out1_5 (F := Ideal) (iblk1 V c 0 p) (iblk1 V c 1 p) (iblk1 V c 2 p) (iblk1 V c 3 p) (iblk1 V c 4 p) y
      = readouts (V c main_v3) (V c main_arg0) (V c main_v13) (V c main_arg3) (V c main_arg1) ((win1_5.blk p).view.emb y) := by
  obtain ⟨i, t, d, rfl⟩ : ∃ i t d, y = ix3 i t d := ⟨y 0, y 1, y 2, eq_ix3 y⟩
  rw [block_emb]
  exact stored_eq V c p i t d

/-- The array the attention kernel's region leaves is the array of read-outs. -/
theorem array_eq (c : Dev nD) :
    (dat1 (F := Ideal) V c).arrAt 5 cfg1.N
      = readouts (V c main_v3) (V c main_arg0) (V c main_v13) (V c main_arg3) (V c main_arg1) := by
  refine (dat1 (F := Ideal) V c).arrAt_eq_of_covers 5 _ (by decide +kernel) fun p hf y => ?_
  blk_simp
  rw [after1_5]
  exact stored_block V c p y

end Cert.AttnValue

end
-- ==== Proof.Host.lean ====
/-
  What the program's host operations put into the arrays the two kernels read.
-/
module

public import proofs.«01_k».proof.Proof.Gen.KernelIdeal.Frame
public import proofs.«01_k».proof.Proof.ScanBlock
public import Idealize.ShloMosaic.Lib.Pointwise
public import Idealize.ShloMosaic.Lib.StableHlo.ReadAt
public import Idealize.ShloMosaic.Lib.Tactic.WordOmega

@[expose] public section

set_option maxRecDepth 16384

noncomputable section

namespace Cert.Host

open Idealize.ShloMosaic Idealize.ShloMosaic.TcCoe Idealize.ShloMosaic.StableHlo
open Cert.KernelIdeal Cert.KernelIdeal.Gen Cert.Recurrence

variable (V : Valuation τ sig (Elt Ideal))

/-- The flattened embeddings: row `8 t + b` is batch row `b` at step `t`. -/
theorem flat_apply (t : Fin 128) (b : Fin 8) (d : Fin 256) :
    after (hostOps0 (F := Ideal)) V (Proc.devRef .tc main_v1) (ix2 (ScanBlock.flatRow t b) d)
      = V (Proc.devRef .tc main_arg0) (ix3 b t d) := by
  after_reads_at
  congr 2 <;> exact Fin.ext (by dsimp only; omega)

/-- The states with a unit axis put in. -/
theorem states_apply (t : Fin 128) (b : Fin 8) (i : Fin 1) (n : Fin 2048) :
    after (hostOps1 (F := Ideal)) V (Proc.devRef .tc main_v3) (ix4 t b i n)
      = V (Proc.devRef .tc main_v2) (ix3 t b n) := by
  after_reads_at

/-- The mask's condition is that the column's step is earlier than the row's. -/
theorem earlier_eq (t s : Fin 128) :
    IntOp.cmpi CmpIPredicate.slt (BitVec.ofNat 32 s.val) (BitVec.ofNat 32 t.val) = if s.val < t.val then 1#1 else 0#1 := by
  have ht := t.isLt
  have hs := s.isLt
  word_omega

/-- Where it holds, the exponent's word is the number of steps between. -/
theorem exponent_eq (t s : Fin 128) (h : s.val < t.val) :
    (IntOp.subi (IntOp.subi (BitVec.ofNat 32 t.val) 1#32) (BitVec.ofNat 32 s.val)).toInt = ((t.val - 1 - s.val : ℕ) : ℤ) := by
  have ht := t.isLt
  have hs := s.isLt
  rw [show IntOp.subi (IntOp.subi (BitVec.ofNat 32 t.val) 1#32) (BitVec.ofNat 32 s.val) = BitVec.ofNat 32 (t.val - 1 - s.val) from ?_]
  · word_omega
  · apply BitVec.eq_of_toNat_eq
    simp [IntOp.subi, BitVec.toNat_sub, BitVec.toNat_ofNat]
    omega

/-- The mask's entries. -/
theorem mask_apply (t s : Fin 128) :
    after (hostOps1_1 (F := Ideal)) (after (hostOps1 (F := Ideal)) V) (Proc.devRef .tc main_v13) (ix2 t s)
      = weight t.val s.val := by
  after_reads_at
  rw [earlier_eq]
  unfold weight
  by_cases h : s.val < t.val
  · rw [if_pos h, if_pos h]
    show Ideal.pow decay (((IntOp.subi (IntOp.subi (BitVec.ofNat 32 t.val) 1#32) (BitVec.ofNat 32 s.val)).toInt : ℝ) : EReal) = _
    rw [exponent_eq t s h, Int.cast_natCast]
  · rw [if_neg h, if_neg h]
    exact Ideal.ofBits_zero_f32

end Cert.Host

end
-- ==== Proof.Algebra.lean ====
/-
  The equation: over the extended reals the masked Gram product is the memory contracted with the state. The
  normalised embeddings and the states are real numbers whatever the arguments are, infinities included, so both
  sides are finite sums of products of reals, where multiplication distributes over addition.
-/
module

public import proofs.«01_k».proof.Proof.Recurrence
public import Idealize.ShloMosaic.PureOps.Ideal.Laws

@[expose] public section

noncomputable section

namespace Cert.Recurrence

open Idealize.ShloMosaic

/-- An extended real that is a real number. -/
def IsReal (x : EReal) : Prop := ∃ r : ℝ, x = (r : EReal)

/-- The decay is a real number. -/
theorem decay_real : IsReal decay := by
  unfold decay IsReal; simp [Ideal.ofBits, Ideal.ieee]; exact ⟨_, rfl⟩

/-- The layer normalisation's addend is a positive real number. -/
theorem lnEps_pos : ∃ r : ℝ, 0 < r ∧ lnEps = (r : EReal) := by
  refine ⟨_, ?_, by unfold lnEps; simp [Ideal.ofBits, Ideal.ieee]; rfl⟩
  positivity

/-- The least divisor is a positive real number. -/
theorem l1Eps_pos : ∃ r : ℝ, 0 < r ∧ l1Eps = (r : EReal) := by
  refine ⟨_, ?_, by unfold l1Eps; simp [Ideal.ofBits, Ideal.ieee]; rfl⟩
  positivity

/-- The number of lanes is a positive real number. -/
theorem width_pos : ∃ r : ℝ, 0 < r ∧ width = (r : EReal) := by
  refine ⟨_, ?_, by unfold width; simp [Ideal.ofBits, Ideal.ieee]; rfl⟩
  positivity

/-- A value that is neither infinity is a real number. -/
theorem isReal_of_ne {x : EReal} (ht : x ≠ ⊤) (hb : x ≠ ⊥) : IsReal x :=
  ⟨x.toReal, (EReal.coe_toReal ht hb).symm⟩

/-- A product of real numbers is one. -/
theorem IsReal.mul {x y : EReal} (hx : IsReal x) (hy : IsReal y) : IsReal (x * y) := by
  obtain ⟨a, rfl⟩ := hx; obtain ⟨b, rfl⟩ := hy; exact ⟨a * b, by norm_cast⟩

/-- The quotient by a positive real number is the product with its inverse. -/
theorem div_pos_real {x y : EReal} {r : ℝ} (hr : 0 < r) (hy : y = (r : EReal)) : Ideal.div x y = x * ((r⁻¹ : ℝ) : EReal) := by
  subst hy
  have h : (r : EReal) ≠ 0 := by exact_mod_cast hr.ne'
  unfold Ideal.div
  rw [if_neg h, EReal.coe_inv]

/-- Where a sum of values that are nowhere negative is not infinite, none of them is. -/
theorem ne_top_of_sum {n : ℕ} {f : Fin n → EReal} (h0 : ∀ k, 0 ≤ f k) (h : ∑ k, f k ≠ ⊤) (k : Fin n) : f k ≠ ⊤ :=
  fun e => h (top_le_iff.mp (e ▸ Finset.single_le_sum (fun i _ => h0 i) (Finset.mem_univ k)))

/-- A square is never negative. -/
theorem sq_nonneg' (x : EReal) : 0 ≤ x * x := by
  induction x with
  | bot => rw [EReal.bot_mul_bot]; exact le_top
  | top => rw [EReal.top_mul_top]; exact le_top
  | coe r => exact_mod_cast mul_self_nonneg r

/-- A value whose square is not infinite is a real number. -/
theorem isReal_of_sq {x : EReal} (h : x * x ≠ ⊤) : IsReal x := by
  refine isReal_of_ne ?_ ?_ <;> rintro rfl
  · exact h EReal.top_mul_top
  · exact h EReal.bot_mul_bot

/-- An absolute value is never negative. -/
theorem abs_nonneg' (x : EReal) : 0 ≤ max x (-x) := by
  rcases le_total 0 x with h | h
  · exact le_max_of_le_left h
  · exact le_max_of_le_right (EReal.neg_nonneg.mpr h)

/-- A value whose absolute value is not infinite is a real number. -/
theorem isReal_of_abs {x : EReal} (h : max x (-x) ≠ ⊤) : IsReal x := by
  refine isReal_of_ne ?_ ?_ <;> rintro rfl <;> exact h (by simp)

/-- A layer normalisation is a real number whatever the row is: an infinite variance scales the row by zero, and
    with a finite one every distance from the mean is finite. -/
theorem layerNorm_real (v : Fin 256 → EReal) (d : Fin 256) : IsReal (layerNorm v d) := by
  obtain ⟨w, hw, ew⟩ := width_pos
  obtain ⟨e, he, ee⟩ := lnEps_pos
  have h0 : ∀ k, 0 ≤ (v k - mean v) * (v k - mean v) := fun k => sq_nonneg' _
  unfold layerNorm variance
  rw [div_pos_real hw ew, ee]
  by_cases hS : ∑ k, (v k - mean v) * (v k - mean v) = ⊤
  · rw [hS, EReal.top_mul_coe_of_pos (inv_pos.mpr hw), EReal.top_add_coe, Ideal.rsqrt_top, mul_zero]
    exact ⟨0, rfl⟩
  · have hq := isReal_of_sq (ne_top_of_sum h0 hS d)
    have hS0 : 0 ≤ ∑ k, (v k - mean v) * (v k - mean v) := Finset.sum_nonneg fun k _ => h0 k
    obtain ⟨s, hs⟩ := isReal_of_ne hS (fun h => by rw [h] at hS0; exact absurd hS0 (by simp))
    rw [hs] at hS0 ⊢
    have hs0 : 0 ≤ s := by exact_mod_cast hS0
    have hpos : 0 < s * w⁻¹ + e := by positivity
    refine hq.mul ?_
    rw [← EReal.coe_mul, ← EReal.coe_add, Ideal.rsqrt_coe, if_neg hpos.not_gt, if_neg hpos.ne']
    exact ⟨_, rfl⟩

/-- A step of the state gives real numbers whatever it starts from: an infinite absolute sum divides everything to
    zero, and with a finite one every lane is finite. -/
theorem advance_real (x u : Fin 2048 → EReal) (n : Fin 2048) : IsReal (advance x u n) := by
  obtain ⟨e, he, ee⟩ := l1Eps_pos
  have h0 : ∀ k, 0 ≤ max (raw x u k) (-(raw x u k)) := fun k => abs_nonneg' _
  unfold advance
  rw [ee]
  by_cases hS : ∑ k, max (raw x u k) (-(raw x u k)) = ⊤
  · rw [hS, max_eq_left le_top]
    unfold Ideal.div
    rw [if_neg (by simp), EReal.inv_top, mul_zero]
    exact ⟨0, rfl⟩
  · have hq := isReal_of_abs (ne_top_of_sum h0 hS n)
    have hS0 : 0 ≤ ∑ k, max (raw x u k) (-(raw x u k)) := Finset.sum_nonneg fun k _ => h0 k
    obtain ⟨s, hs⟩ := isReal_of_ne hS (fun h => by rw [h] at hS0; exact absurd hS0 (by simp))
    rw [hs, ← EReal.coe_strictMono.monotone.map_max, div_pos_real (lt_of_lt_of_le he (le_max_right s e)) rfl]
    exact hq.mul ⟨_, rfl⟩

/-- Every state after the first is real. -/
theorem state_real (u : ℕ → Fin 2048 → EReal) (x₀ : Fin 2048 → EReal) (t : ℕ) (n : Fin 2048) :
    IsReal (state u x₀ (t + 1) n) := advance_real _ _ n

/-- A sum of real numbers, as a real number. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The memory in closed form: each earlier step's outer product, decayed once for every step since. -/
theorem memory_closed {c : ℝ} (hc : decay = (c : EReal)) (v : ℕ → Fin 256 → ℝ) (x : ℕ → Fin 2048 → ℝ) (d : Fin 256)
    (n : Fin 2048) (t : ℕ) :
    memory (fun t d => (v t d : EReal)) (fun t n => (x t n : EReal)) t d n
      = ((∑ s ∈ Finset.range t, c ^ (t - 1 - s) * v s d * x s n : ℝ) : EReal) := by
  induction t with
  | zero => simp [memory]
  | succ t ih =>
    simp only [memory]
    rw [ih, hc, ← EReal.coe_mul, ← EReal.coe_mul, ← EReal.coe_add, Finset.sum_range_succ, Finset.mul_sum]
    congr 2
    · refine Finset.sum_congr rfl fun s hs => ?_
      have hs : s < t := Finset.mem_range.mp hs
      have e : t + 1 - 1 - s = (t - 1 - s) + 1 := by omega
      rw [e, pow_succ]; ring
    · simp

/-- The weight of a step, as a real number. -/
theorem weight_real {c : ℝ} (hc : decay = (c : EReal)) (t s : ℕ) :
    weight t s = ((if s < t then c ^ (t - 1 - s) else 0 : ℝ) : EReal) := by
  unfold weight
  split_ifs
  · rw [hc]
    show ((Real.rpow c ((t - 1 - s : ℕ) : ℝ) : ℝ) : EReal) = _
    congr 1
    exact Real.rpow_natCast c _
  · rfl

/-- THE EQUATION: at each of the 128 steps the masked Gram product is the memory contracted with the state, where
    the states and the normalised embeddings are real. -/
theorem gramAttend_eq_attend (v : ℕ → Fin 256 → EReal) (x : ℕ → Fin 2048 → EReal) (hv : ∀ t d, IsReal (v t d))
    (hx : ∀ t n, IsReal (x t n)) (t : ℕ) (ht : t < 128) (d : Fin 256) : gramAttend v x t d = attend v x t d := by
  obtain ⟨c, hc⟩ := decay_real
  choose vr hvr using hv
  choose xr hxr using hx
  obtain rfl : v = fun t d => (vr t d : EReal) := funext fun t => funext fun d => hvr t d
  obtain rfl : x = fun t n => (xr t n : EReal) := funext fun t => funext fun n => hxr t n
  unfold gramAttend attend
  simp only [memory_closed hc, weight_real hc, ← EReal.coe_mul, ← coe_sum]
  congr 1
  rw [Fin.sum_univ_eq_sum_range (fun s => ((if s < t then c ^ (t - 1 - s) else 0) * ∑ n, xr t n * xr s n) * vr s d) 128,
    ← Finset.sum_subset (Finset.range_subset_range.mpr ht.le) (fun s _ hs => by
      rw [if_neg (fun h => hs (Finset.mem_range.mpr h))]; ring)]
  simp only [Finset.sum_mul, Finset.mul_sum]
  rw [Finset.sum_comm]
  refine Finset.sum_congr rfl fun n _ => Finset.sum_congr rfl fun s hs => ?_
  rw [if_pos (Finset.mem_range.mp hs)]; ring

end Cert.Recurrence

end
-- ==== Proof.Rows.lean ====
/-
  The two answers, one batch row and one step at a time, as functions of the arguments with plain indices; and their
  equality.
-/
module

public import proofs.«01_k».proof.Proof.Algebra

@[expose] public section

noncomputable section

namespace Cert.Rows

open Idealize.ShloMosaic Cert.Recurrence

/-- The embedding row of batch row `b` at step `t`; zero past the last step. -/
def embedding (e : Fin 8 → Fin 128 → Fin 256 → EReal) (b : Fin 8) (t : ℕ) (d : Fin 256) : EReal :=
  if h : t < 128 then e b ⟨t, h⟩ d else 0

/-- The normalised embedding row. -/
def values (e : Fin 8 → Fin 128 → Fin 256 → EReal) (b : Fin 8) (t : ℕ) : Fin 256 → EReal := layerNorm (embedding e b t)

/-- The drive of step `t`. -/
def drives (e : Fin 8 → Fin 128 → Fin 256 → EReal) (Dx : Fin 2048 → Fin 256 → EReal) (b : Fin 8) (t : ℕ) :
    Fin 2048 → EReal := drive (embedding e b t) Dx

/-- The state step `t` makes. -/
def states (e : Fin 8 → Fin 128 → Fin 256 → EReal) (Dx : Fin 2048 → Fin 256 → EReal) (x₀ : Fin 8 → Fin 2048 → EReal)
    (b : Fin 8) (t : ℕ) : Fin 2048 → EReal := state (drives e Dx b) (x₀ b) (t + 1)

/-- The reference's result: the read-out of the memory contracted with the state. -/
def remembered (e : Fin 8 → Fin 128 → Fin 256 → EReal) (E : Fin 256 → Fin 2048 → EReal) (Dx Dy : Fin 2048 → Fin 256 → EReal)
    (x₀ : Fin 8 → Fin 2048 → EReal) (b : Fin 8) (t : ℕ) (d : Fin 256) : EReal :=
  readout Dy E (attend (values e b) (states e Dx x₀ b) t) (states e Dx x₀ b t) d

/-- The kernel's result: the read-out of the masked Gram product. -/
def attended (e : Fin 8 → Fin 128 → Fin 256 → EReal) (E : Fin 256 → Fin 2048 → EReal) (Dx Dy : Fin 2048 → Fin 256 → EReal)
    (x₀ : Fin 8 → Fin 2048 → EReal) (b : Fin 8) (t : ℕ) (d : Fin 256) : EReal :=
  readout Dy E (gramAttend (values e b) (states e Dx x₀ b) t) (states e Dx x₀ b t) d

/-- The two results are one, whatever the arguments: normalised rows and states are real, so the sums may be exchanged. -/
theorem attended_eq_remembered (e : Fin 8 → Fin 128 → Fin 256 → EReal) (E : Fin 256 → Fin 2048 → EReal)
    (Dx Dy : Fin 2048 → Fin 256 → EReal) (x₀ : Fin 8 → Fin 2048 → EReal) (b : Fin 8) (t : ℕ) (ht : t < 128) (d : Fin 256) :
    attended e E Dx Dy x₀ b t d = remembered e E Dx Dy x₀ b t d := by
  unfold attended remembered
  rw [show gramAttend (values e b) (states e Dx x₀ b) t = attend (values e b) (states e Dx x₀ b) t from
    funext fun d => gramAttend_eq_attend _ _ (fun t d => layerNorm_real _ d) (fun t n => state_real _ _ t n) t ht d]

end Cert.Rows

end
-- ==== Proof.KernelValue.lean ====
/-
  The kernel program's value: from any arguments its result array ends at the read-outs of the masked Gram products.
-/
module

public import proofs.«01_k».proof.Proof.KernelRun
public import proofs.«01_k».proof.Proof.ScanValue
public import proofs.«01_k».proof.Proof.AttnValue
public import proofs.«01_k».proof.Proof.Host
public import proofs.«01_k».proof.Proof.Rows

@[expose] public section

set_option maxRecDepth 16384

noncomputable section

namespace Cert.KernelValue

open Idealize.ShloMosaic Idealize.ShloMosaic.TcCoe Idealize.SL.Sem
open Cert.KernelIdeal Cert.KernelIdeal.Gen Cert.Recurrence Cert.Rows

/-- The kernel's result array, from its arguments. -/
def result (a0 : FVec Ideal S8x128x256 .f32) (a1 : FVec Ideal S256x2048 .f32) (a2 a3 : FVec Ideal S2048x256 .f32)
    (a4 : FVec Ideal S8x2048 .f32) : FVec Ideal S8x128x256 .f32 := fun i =>
  attended (fun b t d => a0 (ix3 b t d)) (fun d n => a1 (ix2 d n)) (fun n d => a2 (ix2 n d)) (fun n d => a3 (ix2 n d))
    (fun b n => a4 (ix2 b n)) (i 0) (i 1).val (i 2)

variable (m : (ℓ : Loc nD τ sig) → Buf (Elt Ideal) ℓ) (ρ : Dev nD → PrngReg) (c : Dev nD)

/-- The state depends on its drives only below its step. -/
theorem state_congr (u v : ℕ → Fin 2048 → EReal) (x₀ : Fin 2048 → EReal) (t : ℕ) (h : ∀ s < t, u s = v s) :
    state u x₀ t = state v x₀ t := by
  induction t with
  | zero => rfl
  | succ t ih =>
    show advance (state u x₀ t) (u t) = advance (state v x₀ t) (v t)
    rw [ih fun s hs => h s (Nat.lt_succ_of_lt hs), h t (Nat.lt_succ_self t)]

/-- The scanned array of the drives of flattened embeddings holds the states. -/
theorem scanned_apply (e : FVec Ideal S1024x256 .f32) (a0 : FVec Ideal S8x128x256 .f32) (a2 : FVec Ideal S2048x256 .f32)
    (a4 : FVec Ideal S8x2048 .f32) (he : ∀ t b d, e (ix2 (ScanBlock.flatRow t b) d) = a0 (ix3 b t d))
    (t : Fin 128) (b : Fin 8) (n : Fin 2048) :
    ScanTrip.scanned (k0_pay1 (F := Ideal) e a2) a4 (ix3 t b n)
      = states (fun b t d => a0 (ix3 b t d)) (fun n d => a2 (ix2 n d)) (fun b n => a4 (ix2 b n)) b t.val n := by
  refine congrFun (state_congr _ _ _ _ fun s hs => ?_) n
  have hs' : s < 128 := lt_of_lt_of_le hs t.isLt
  funext k
  unfold ScanTrip.driveOf drives embedding
  simp only [dif_pos hs']
  refine (ScanBlock.drives_apply _ _ ⟨s, hs'⟩ b k).trans ?_
  simp only [he]

/-- The read-outs from the states and the powers of the decay are the kernel's result. -/
theorem readouts_eq (x : FVec Ideal S128x8x1x2048 .f32) (w : FVec Ideal S128x128 .f32) (a0 : FVec Ideal S8x128x256 .f32)
    (a1 : FVec Ideal S256x2048 .f32) (a2 a3 : FVec Ideal S2048x256 .f32) (a4 : FVec Ideal S8x2048 .f32)
    (hx : ∀ t b n, x (ix4 t b 0 n)
      = states (fun b t d => a0 (ix3 b t d)) (fun n d => a2 (ix2 n d)) (fun b n => a4 (ix2 b n)) b t.val n)
    (hw : ∀ t s : Fin 128, w (ix2 t s) = weight t.val s.val) :
    AttnValue.readouts x a0 w a3 a1 = result a0 a1 a2 a3 a4 := by
  funext i
  obtain ⟨b, t, d, rfl⟩ : ∃ b t d, i = ix3 b t d := ⟨i 0, i 1, i 2, eq_ix3 i⟩
  show readout _ _ (fun d => ∑ s : Fin 128, (w (ix2 t s) * ∑ n, x (ix4 t b 0 n) * x (ix4 s b 0 n)) * layerNorm (fun d => a0 (ix3 b s d)) d)
      (fun n => x (ix4 t b 0 n)) d = attended _ _ _ _ _ b t.val d
  unfold attended gramAttend values embedding
  simp only [hx, hw, Fin.is_lt, dite_true, Fin.eta]

/-- The flattened embeddings the scan reads. -/
theorem flat_eq (t : Fin 128) (b : Fin 8) (d : Fin 256) :
    (V1 m ρ c main_v1 : FVec Ideal S1024x256 .f32) (ix2 (ScanBlock.flatRow t b) d) = m ((c : Thread nD τ).loc main_arg0) (ix3 b t d) :=
  Host.flat_apply (W0 m ρ c) t b d

/-- The scan's result array holds the states. -/
theorem scan_eq (t : Fin 128) (b : Fin 8) (n : Fin 2048) :
    (W2 m ρ c (Proc.devRef .tc main_v2) : FVec Ideal S128x8x2048 .f32) (ix3 t b n)
      = states (fun b t d => m ((c : Thread nD τ).loc main_arg0) (ix3 b t d))
          (fun n d => m ((c : Thread nD τ).loc main_arg2) (ix2 n d))
          (fun b n => m ((c : Thread nD τ).loc main_arg4) (ix2 b n)) b t.val n := by
  have h : (W2 m ρ c (Proc.devRef .tc main_v2) : FVec Ideal S128x8x2048 .f32)
      = ScanTrip.scanned (k0_pay1 (F := Ideal) (V1 m ρ c main_v1) (V1 m ρ c main_arg2)) (V1 m ρ c main_arg4) :=
    (W2_arr m ρ c 3).trans (ScanValue.array_eq (V1 m ρ) c)
  rw [h]
  have h2 : V1 m ρ c main_arg2 = m ((c : Thread nD τ).loc main_arg2) := W1_args m ρ c main_arg2 (by decide)
  have h4 : V1 m ρ c main_arg4 = m ((c : Thread nD τ).loc main_arg4) := W1_args m ρ c main_arg4 (by decide)
  rw [h2, h4]
  exact scanned_apply _ _ _ _ (flat_eq m ρ c) t b n

/-- The states the attention kernel reads. -/
theorem states_eq (t : Fin 128) (b : Fin 8) (i : Fin 1) (n : Fin 2048) :
    (V4 m ρ c main_v3 : FVec Ideal S128x8x1x2048 .f32) (ix4 t b i n)
      = states (fun b t d => m ((c : Thread nD τ).loc main_arg0) (ix3 b t d))
          (fun n d => m ((c : Thread nD τ).loc main_arg2) (ix2 n d))
          (fun b n => m ((c : Thread nD τ).loc main_arg4) (ix2 b n)) b t.val n := by
  have h : V4 m ρ c main_v3 = W3 m ρ c (Proc.devRef .tc main_v3) := W4_of m ρ c main_v3 (by decide)
  rw [h]
  exact (Host.states_apply (W2 m ρ c) t b i n).trans (scan_eq m ρ c t b n)

/-- The result array at the end. -/
theorem value_eq : W5 m ρ c (Proc.devRef .tc main_v14)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W5_arr m ρ c 5).trans (AttnValue.array_eq (V4 m ρ) c)).trans ?_
  have h0 : V4 m ρ c main_arg0 = m ((c : Thread nD τ).loc main_arg0) := W4_args m ρ c main_arg0 (by decide)
  have h1 : V4 m ρ c main_arg1 = m ((c : Thread nD τ).loc main_arg1) := W4_args m ρ c main_arg1 (by decide)
  have h3 : V4 m ρ c main_arg3 = m ((c : Thread nD τ).loc main_arg3) := W4_args m ρ c main_arg3 (by decide)
  rw [h0, h1, h3]
  exact readouts_eq _ _ _ _ _ _ _ (fun t b n => states_eq m ρ c t b 0 n) (fun t s => Host.mask_apply (W2 m ρ c) t s)

/-- Every execution ends with the result array at `result` of the arguments, and the arguments unchanged. -/
theorem run : θ_run defs (onTc (τ := τ) (main (F := Ideal))) ⟨m, fun _ => 0, ρ⟩ (fun r => ∀ c : Dev nD,
      r.2.mem ((c.tc : Thread nD τ).loc main_v14)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (value_eq m ρ c), (h c).2⟩) (KernelRun.run (F := Ideal) m ρ)

end Cert.KernelValue

end
-- ==== Proof.RefLoop.lean ====
/-
  The reference's run as trips on a record of what its loop carries: the valuation the loop works on, read as that
  record, goes through `Step.step` once per trip.
-/
module

public import proofs.«01_k».proof.Proof.Gen.ReferenceIdeal.Run
public import proofs.«01_k».proof.Proof.Gen.ReferenceIdeal.Step

@[expose] public section

set_option maxRecDepth 16384

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- The record of what a valuation holds in the buffers the loop carries. -/
def carried (V : Valuation τ sig (Elt F)) : State F where
  main_v2_5 := V (Proc.devRef .tc main_v2_5)
  main_v2_6 := V (Proc.devRef .tc main_v2_6)
  main_v2_7 := V (Proc.devRef .tc main_v2_7)
  main_v2_0 := V (Proc.devRef .tc main_v2_0)
  main_v2_1 := V (Proc.devRef .tc main_v2_1)
  main_v2_2 := V (Proc.devRef .tc main_v2_2)
  main_v2_3 := V (Proc.devRef .tc main_v2_3)

/-- The valuation's trip counter is at `j`. -/
def Counts (V : Valuation τ sig (Elt F)) (j : ℕ) : Prop :=
  V (Proc.devRef .tc main_v2_4) = constantI S_ 32 (BitVec.ofNat 32 j)

variable {V : Valuation τ sig (Elt F)} {j : ℕ}

theorem embedding_eq (h : Counts V j) : res_main_while0b_v4 V = Step.b3 j (carried V) := by
  unfold res_main_while0b_v4; rw [h]; rfl

theorem raw_eq (h : Counts V j) : res_main_while0b_v10 V = Step.b12 j (carried V) := by
  unfold res_main_while0b_v10; rw [embedding_eq h]; rfl

theorem state_eq (h : Counts V j) : res_main_while0b_v17 V = Step.b21 j (carried V) := by
  unfold res_main_while0b_v17; rw [raw_eq h]; rfl

theorem attention_eq (h : Counts V j) : res_main_while0b_v18 V = Step.b22 j (carried V) := by
  unfold res_main_while0b_v18; rw [state_eq h]; rfl

theorem attentionMean_eq (h : Counts V j) : res_main_while0b_v22 V = Step.b28 j (carried V) := by
  unfold res_main_while0b_v22; rw [attention_eq h]; rfl

theorem attentionCentred_eq (h : Counts V j) : res_main_while0b_v24 V = Step.b30 j (carried V) := by
  unfold res_main_while0b_v24; rw [attention_eq h, attentionMean_eq h]; rfl

theorem projected_eq (h : Counts V j) : res_main_while0b_v43 V = Step.b56 j (carried V) := by
  unfold res_main_while0b_v43
  rw [attention_eq h, attentionMean_eq h, attentionCentred_eq h, state_eq h]; rfl

theorem projectedMean_eq (h : Counts V j) : res_main_while0b_v47 V = Step.b62 j (carried V) := by
  unfold res_main_while0b_v47; rw [projected_eq h]; rfl

theorem projectedCentred_eq (h : Counts V j) : res_main_while0b_v49 V = Step.b64 j (carried V) := by
  unfold res_main_while0b_v49; rw [projected_eq h, projectedMean_eq h]; rfl

theorem embeddingMean_eq (h : Counts V j) : res_main_while0b_v65 V = Step.b85 j (carried V) := by
  unfold res_main_while0b_v65; rw [embedding_eq h]; rfl

theorem embeddingCentred_eq (h : Counts V j) : res_main_while0b_v67 V = Step.b87 j (carried V) := by
  unfold res_main_while0b_v67; rw [embedding_eq h, embeddingMean_eq h]; rfl

/-- The trip's new state, memory and result rows. -/
theorem newState_eq (h : Counts V j) : step_main_v2_5 V = Step.b21 j (carried V) := state_eq h

theorem newMemory_eq (h : Counts V j) : step_main_v2_6 V = Step.b111 j (carried V) := by
  unfold step_main_v2_6
  rw [embedding_eq h, embeddingMean_eq h, embeddingCentred_eq h, state_eq h]; rfl

theorem newRows_eq (h : Counts V j) : step_main_v2_7 V = Step.b115 j (carried V) := by
  unfold step_main_v2_7
  rw [projected_eq h, projectedMean_eq h, projectedCentred_eq h, h]; rfl

/-- One trip on a valuation is `Step.step` on its record. -/
theorem carried_trip (h : Counts V j) : carried (STEP V) = Step.step j (carried V) := by
  unfold carried Step.step
  rw [STEP_main_v2_5, STEP_main_v2_6, STEP_main_v2_7, STEP_main_v2_0, STEP_main_v2_1, STEP_main_v2_2, STEP_main_v2_3,
    newState_eq h, newMemory_eq h, newRows_eq h]
  rfl

/-- and moves its counter on by one. -/
theorem counts_trip (h : Counts V j) : Counts (STEP V) (j + 1) := by
  unfold Counts
  rw [STEP_main_v2_4]; unfold step_main_v2_4; rw [h]
  funext i
  show BitVec.ofNat 32 j + 1#32 = BitVec.ofNat 32 (j + 1)
  simp only [BitVec.ofNat_add]

/-- The result array is read off the record. -/
theorem out_carried (V : Valuation τ sig (Elt F)) : out_main_v3 V = Step.R_main_v3 (carried V) := by
  unfold out_main_v3 Step.R_main_v3; rfl

variable (m : (ℓ : Loc nD τ sig) → Buf (Elt F) ℓ) (c : Dev nD)

/-- The record the loop starts from, of the memory. -/
abbrev start : State F :=
  Step.init (m ((c.tc : Thread nD τ).loc main_arg4)) (m ((c.tc : Thread nD τ).loc main_arg5))
    (m ((c.tc : Thread nD τ).loc main_arg2)) (m ((c.tc : Thread nD τ).loc main_arg3))
    (m ((c.tc : Thread nD τ).loc main_arg1)) (m ((c.tc : Thread nD τ).loc main_arg0))

/-- At the loop's entry the counter is at zero and the record is `start`. -/
theorem entry_counts : Counts (entryContents preI m c) 0 := by
  unfold Counts
  simp only [entryContents, afterL_cons, afterL_nil]
  after_reads_simp
  rfl

theorem entry_carried : carried (entryContents preI m c) = start m c := by
  unfold carried
  congr 1 <;> (simp only [entryContents, afterL_cons, afterL_nil]; after_reads_simp) <;> rfl

/-- After `n` trips the record is the `n`-th of any sequence that starts at `start` and goes on by `Step.step`. -/
theorem trips (it : ℕ → State F) (h0 : it 0 = start m c) (hs : ∀ n, it (n + 1) = Step.step n (it n)) (n : ℕ) :
    Counts (STEP^[n] (entryContents preI m c)) n ∧ carried (STEP^[n] (entryContents preI m c)) = it n := by
  induction n with
  | zero => exact ⟨entry_counts m c, (entry_carried m c).trans h0.symm⟩
  | succ n ih =>
    rw [Function.iterate_succ_apply']
    exact ⟨counts_trip ih.1, (carried_trip ih.1).trans (by rw [ih.2, hs])⟩

/-- The result array after 128 trips, from such a sequence. -/
theorem out_eq (it : ℕ → State F) (h0 : it 0 = start m c) (hs : ∀ n, it (n + 1) = Step.step n (it n)) :
    out_main_v3 (STEP^[128] (entryContents preI m c)) = Step.R_main_v3 (it 128) := by
  rw [out_carried, (trips m c it h0 hs 128).2]

end Cert.RefLoop

end
-- ==== Proof.RefStep.lean ====
/-
  What one trip of the reference's loop computes, read at an index: its embedding rows, the new state and memory, and
  the row it writes of the result.
-/
module

public import proofs.«01_k».proof.Proof.Gen.ReferenceIdeal.Step
public import proofs.«01_k».proof.Proof.Recurrence
public import Idealize.ShloMosaic.Lib.Pointwise

@[expose] public section

set_option maxRecDepth 16384

noncomputable section

namespace Cert.RefStep

open Idealize.ShloMosaic Cert.ReferenceIdeal Cert.ReferenceIdeal.Step Cert.Recurrence

/-- The counter word of a trip, clamped to the steps there are, is the trip. -/
theorem trip_eq : ∀ j : Fin 128, (min (max ((BitVec.ofNat 32 j.val).toInt) 0) (128 - 1)).toNat = j.val := by decide

/-- Where a trip's slice starts, as the loop's body computes it from the counter. -/
abbrev starts (j : Fin 128) : Fin 3 → Int := fun k => BitVec.toInt
  ((![constantI S_ 32 (BitVec.ofNat 32 j.val), constantI S_ 32 0#32, constantI S_ 32 0#32] : Fin 3 → Shape.Idx S_ → BitVec 32) k
    (Shape.Idx.first Gen.h_S_))

/-- A trip's slice starts at the trip's step, and takes every batch row and every lane. -/
theorem start_eq (j : Fin 128) (h : S1x8x256.rank = S128x8x256.rank) :
    Host.clampedStart S128x8x256 S1x8x256 h (starts j) 0 = j.val
    ∧ Host.clampedStart S128x8x256 S1x8x256 h (starts j) 1 = 0
    ∧ Host.clampedStart S128x8x256 S1x8x256 h (starts j) 2 = 0 :=
  ⟨trip_eq j, rfl, rfl⟩

variable (j : Fin 128) (s : State Ideal)

/-- The trip's embedding rows are row `j` of the embeddings. -/
theorem embedding_apply (b : Fin 8) (d : Fin 256) :
    Step.b3 (F := Ideal) j.val s (ix2 b d) = s.main_v2_0 (ix3 j b d) := by
  pointwise [Step.b3, Step.b2, Step.b1, Step.b0]
  obtain ⟨h0, h1, h2⟩ := start_eq j rfl
  refine congrArg s.main_v2_0 ?_
  refine congr (congr (congrArg ix3 (Fin.ext h0)) (Fin.ext ?_)) (Fin.ext ?_)
  · exact (congrArg (· + b.val) h1).trans (Nat.zero_add _)
  · exact (congrArg (· + d.val) h2).trans (Nat.zero_add _)

/-- The new state is the old one advanced by the drive of the trip's embedding row. -/
theorem state_apply (b : Fin 8) (n : Fin 2048) :
    Step.b21 (F := Ideal) j.val s (ix2 b n)
      = advance (fun n => s.main_v2_5 (ix2 b n))
          (drive (fun d => s.main_v2_0 (ix3 j b d)) (fun n d => s.main_v2_1 (ix2 n d))) n := by
  simp only [← embedding_apply]
  unfold advance raw drive decay l1Eps
  pointwise [Step.b21, Step.b20, Step.b19, Step.b18, Step.b17, Step.b16, Step.b15, Step.b14, Step.b13, Step.b12,
    Step.b11, Step.b10, Step.b9, Step.b8, Step.b7, Step.b6, Step.b5, Step.b4, Ideal.absf_def]

/-- The normalised embedding row. -/
theorem normed_apply (b : Fin 8) (d : Fin 256) :
    Step.b102 (F := Ideal) j.val s (ix2 b d) = layerNorm (fun d => s.main_v2_0 (ix3 j b d)) d := by
  simp only [← embedding_apply]
  unfold layerNorm variance mean width lnEps
  pointwise [Step.b102, Step.b101, Step.b100, Step.b99, Step.b98, Step.b97, Step.b96, Step.b95, Step.b94, Step.b93,
    Step.b92, Step.b91, Step.b90, Step.b89, Step.b88, Step.b87, Step.b86, Step.b85, Step.b84, Step.b83, Step.b82,
    Step.b81, Step.b80]

/-- The new memory: the old one decayed, with the outer product of the normalised row and the new state added. -/
theorem memory_apply (b : Fin 8) (d : Fin 256) (n : Fin 2048) :
    Step.b111 (F := Ideal) j.val s (ix3 b d n)
      = decay * s.main_v2_6 (ix3 b d n)
        + Step.b102 (F := Ideal) j.val s (ix2 b d) * Step.b21 (F := Ideal) j.val s (ix2 b n) := by
  unfold decay
  pointwise [Step.b111, Step.b110, Step.b109, Step.b108, Step.b107, Step.b106, Step.b105, Step.b104, Step.b103]

/-- The attention row: the old memory contracted with the new state. -/
theorem attention_apply (b : Fin 8) (d : Fin 256) :
    Step.b22 (F := Ideal) j.val s (ix2 b d)
      = ∑ n : Fin 2048, s.main_v2_6 (ix3 b d n) * Step.b21 (F := Ideal) j.val s (ix2 b n) := by
  pointwise [Step.b22]

/-- The attention row, normalised. -/
theorem attentionNormed_apply (b : Fin 8) (d : Fin 256) :
    Step.b45 (F := Ideal) j.val s (ix2 b d) = layerNorm (fun d => Step.b22 (F := Ideal) j.val s (ix2 b d)) d := by
  unfold layerNorm variance mean width lnEps
  pointwise [Step.b45, Step.b44, Step.b43, Step.b42, Step.b41, Step.b40, Step.b39, Step.b38, Step.b37, Step.b36,
    Step.b35, Step.b34, Step.b33, Step.b32, Step.b31, Step.b30, Step.b29, Step.b28, Step.b27, Step.b26, Step.b25,
    Step.b24, Step.b23]

/-- The row read out, before its last normalisation. -/
theorem projected_apply (b : Fin 8) (d : Fin 256) :
    Step.b56 (F := Ideal) j.val s (ix2 b d)
      = ∑ n : Fin 2048, (max (∑ k : Fin 256, layerNorm (fun d => Step.b22 (F := Ideal) j.val s (ix2 b d)) k * s.main_v2_2 (ix2 n k)) 0
          * max (Step.b21 (F := Ideal) j.val s (ix2 b n)) 0) * s.main_v2_3 (ix2 d n) := by
  simp only [← attentionNormed_apply]
  pointwise [Step.b56, Step.b55, Step.b54, Step.b53, Step.b52, Step.b51, Step.b50, Step.b49, Step.b48, Step.b47, Step.b46]

/-- The row written: the read-out of the attention row and the new state. -/
theorem written_apply (b : Fin 8) (d : Fin 256) :
    Step.b79 (F := Ideal) j.val s (ix2 b d)
      = readout (fun n d => s.main_v2_2 (ix2 n d)) (fun d n => s.main_v2_3 (ix2 d n))
          (fun d => Step.b22 (F := Ideal) j.val s (ix2 b d)) (fun n => Step.b21 (F := Ideal) j.val s (ix2 b n)) d := by
  unfold readout
  simp only [← projected_apply]
  unfold layerNorm variance mean width lnEps
  pointwise [Step.b79, Step.b78, Step.b77, Step.b76, Step.b75, Step.b74, Step.b73, Step.b72, Step.b71, Step.b70,
    Step.b69, Step.b68, Step.b67, Step.b66, Step.b65, Step.b64, Step.b63, Step.b62, Step.b61, Step.b60, Step.b59,
    Step.b58, Step.b57]

/-- The result after the trip: the row written at step `j`, everything else as before. -/
theorem result_apply (t : Fin 128) (b : Fin 8) (d : Fin 256) :
    Step.b115 (F := Ideal) j.val s (ix3 t b d)
      = if t = j then Step.b79 (F := Ideal) j.val s (ix2 b d) else s.main_v2_7 (ix3 t b d) := by
  pointwise [Step.b115, Step.b114, Step.b113, Step.b112]
  obtain ⟨h0, h1, h2⟩ := start_eq j rfl
  by_cases ht : t = j
  · rw [if_pos ht, dif_pos ⟨⟨(h0.trans (congrArg Fin.val ht).symm).le,
      Nat.lt_succ_of_le (h0.trans (congrArg Fin.val ht).symm).ge⟩, h1.le.trans (Nat.zero_le _), h2.le.trans (Nat.zero_le _)⟩]
    refine congrArg (Step.b79 (F := Ideal) j.val s) (congr (congrArg ix2 (Fin.ext ?_)) (Fin.ext ?_))
    · exact (congrArg (b.val - ·) h1).trans (Nat.sub_zero _)
    · exact (congrArg (d.val - ·) h2).trans (Nat.sub_zero _)
  · rw [if_neg ht, dif_neg]
    rintro ⟨⟨ha, hb⟩, -⟩
    exact ht (Fin.ext (le_antisymm ((Nat.le_of_lt_succ hb).trans h0.le) (h0.ge.trans ha)))

end Cert.RefStep

end
-- ==== Proof.RefValue.lean ====
/-
  The reference's value: after each trip its loop carries the recurrence's state and memory and has written the rows of
  the trips so far; so its result is the read-out of the memory contracted with the state, at every index.
-/
module

public import proofs.«01_k».proof.Proof.RefLoop
public import proofs.«01_k».proof.Proof.RefStep
public import proofs.«01_k».proof.Proof.Rows

@[expose] public section

set_option maxRecDepth 16384

noncomputable section

namespace Cert.RefValue

open Idealize.ShloMosaic Idealize.ShloMosaic.TcCoe Cert.ReferenceIdeal Cert.ReferenceIdeal.Step Cert.Recurrence Cert.Rows

variable (a0 : FVec Ideal S8x128x256 .f32) (a1 : FVec Ideal S256x2048 .f32) (a2 a3 : FVec Ideal S2048x256 .f32)
  (a4 : FVec Ideal S8x2048 .f32) (a5 : FVec Ideal S8x256x2048 .f32)

/-- The loop's states, one per number of trips done. -/
def after : ℕ → State Ideal
  | 0 => Step.init a4 a5 a2 a3 a1 a0
  | n + 1 => Step.step n (after n)

/-- The reference's result array, of the arguments. -/
def result : FVec Ideal S8x128x256 .f32 := fun i =>
  remembered (fun b t d => a0 (ix3 b t d)) (fun d n => a1 (ix2 d n)) (fun n d => a2 (ix2 n d)) (fun n d => a3 (ix2 n d))
    (fun b n => a4 (ix2 b n)) (i 0) (i 1).val (i 2)

/-- What the loop never changes: the transposed embeddings and the three matrices. -/
theorem after_fixed (n : ℕ) :
    ((after a0 a1 a2 a3 a4 a5 n).main_v2_0 = Step.A_main_v0 a0 ∧ (after a0 a1 a2 a3 a4 a5 n).main_v2_1 = a2)
      ∧ (after a0 a1 a2 a3 a4 a5 n).main_v2_2 = a3 ∧ (after a0 a1 a2 a3 a4 a5 n).main_v2_3 = a1 := by
  induction n with
  | zero => exact ⟨⟨rfl, rfl⟩, rfl, rfl⟩
  | succ n ih => exact ih

/-- The trip's embedding row, in the loop's own copy of the embeddings. -/
theorem embedding_row (j : Fin 128) (b : Fin 8) :
    (fun d => (after a0 a1 a2 a3 a4 a5 j.val).main_v2_0 (ix3 j b d)) = embedding (fun b t d => a0 (ix3 b t d)) b j.val := by
  funext d
  rw [(after_fixed a0 a1 a2 a3 a4 a5 j.val).1.1]
  unfold embedding
  rw [dif_pos j.isLt]
  pointwise [Step.A_main_v0]

/-- The loop carries the recurrence's state. -/
theorem after_state (n : ℕ) (hn : n ≤ 128) (b : Fin 8) :
    (fun k => (after a0 a1 a2 a3 a4 a5 n).main_v2_5 (ix2 b k))
      = state (drives (fun b t d => a0 (ix3 b t d)) (fun n d => a2 (ix2 n d)) b) (fun k => a4 (ix2 b k)) n := by
  induction n with
  | zero => rfl
  | succ n ih =>
    funext k
    have h := RefStep.state_apply ⟨n, hn⟩ (after a0 a1 a2 a3 a4 a5 n) b k
    rw [ih (by omega), embedding_row a0 a1 a2 a3 a4 a5 ⟨n, hn⟩ b, (after_fixed a0 a1 a2 a3 a4 a5 n).1.2] at h
    exact h

/-- The state a trip makes is the recurrence's at that step. -/
theorem trip_state (j : Fin 128) (b : Fin 8) :
    (fun k => Step.b21 (F := Ideal) j.val (after a0 a1 a2 a3 a4 a5 j.val) (ix2 b k))
      = states (fun b t d => a0 (ix3 b t d)) (fun n d => a2 (ix2 n d)) (fun b k => a4 (ix2 b k)) b j.val :=
  after_state a0 a1 a2 a3 a4 a5 (j.val + 1) j.isLt b

/-- From a zero memory, the loop carries the recurrence's memory. -/
theorem after_memory (h5 : ∀ b d k, a5 (ix3 b d k) = 0) (n : ℕ) (hn : n ≤ 128) (b : Fin 8) (d : Fin 256) (k : Fin 2048) :
    (after a0 a1 a2 a3 a4 a5 n).main_v2_6 (ix3 b d k)
      = memory (values (fun b t d => a0 (ix3 b t d)) b)
          (states (fun b t d => a0 (ix3 b t d)) (fun n d => a2 (ix2 n d)) (fun b k => a4 (ix2 b k)) b) n d k := by
  induction n with
  | zero => exact h5 b d k
  | succ n ih =>
    have h := RefStep.memory_apply ⟨n, hn⟩ (after a0 a1 a2 a3 a4 a5 n) b d k
    rw [ih (by omega), RefStep.normed_apply, embedding_row a0 a1 a2 a3 a4 a5 ⟨n, hn⟩ b,
      show Step.b21 (F := Ideal) n (after a0 a1 a2 a3 a4 a5 n) (ix2 b k) = _ from
        congrFun (trip_state a0 a1 a2 a3 a4 a5 ⟨n, hn⟩ b) k] at h
    exact h

/-- The attention row of a trip is the recurrence's. -/
theorem trip_attention (h5 : ∀ b d k, a5 (ix3 b d k) = 0) (j : Fin 128) (b : Fin 8) :
    (fun d => Step.b22 (F := Ideal) j.val (after a0 a1 a2 a3 a4 a5 j.val) (ix2 b d))
      = attend (values (fun b t d => a0 (ix3 b t d)) b)
          (states (fun b t d => a0 (ix3 b t d)) (fun n d => a2 (ix2 n d)) (fun b k => a4 (ix2 b k)) b) j.val := by
  funext d
  rw [RefStep.attention_apply]
  unfold attend
  refine Finset.sum_congr rfl fun k _ => ?_
  rw [after_memory a0 a1 a2 a3 a4 a5 h5 j.val j.isLt.le b d k,
    show Step.b21 (F := Ideal) j.val (after a0 a1 a2 a3 a4 a5 j.val) (ix2 b k) = _ from
      congrFun (trip_state a0 a1 a2 a3 a4 a5 j b) k]

/-- The row a trip writes is the result's row at that step. -/
theorem trip_row (h5 : ∀ b d k, a5 (ix3 b d k) = 0) (j : Fin 128) (b : Fin 8) (d : Fin 256) :
    Step.b79 (F := Ideal) j.val (after a0 a1 a2 a3 a4 a5 j.val) (ix2 b d) = result a0 a1 a2 a3 a4 (ix3 b j d) := by
  rw [RefStep.written_apply, trip_attention a0 a1 a2 a3 a4 a5 h5, trip_state, (after_fixed a0 a1 a2 a3 a4 a5 j.val).2.1,
    (after_fixed a0 a1 a2 a3 a4 a5 j.val).2.2]
  rfl

/-- After `n` trips the rows of the first `n` steps are written. -/
theorem after_rows (h5 : ∀ b d k, a5 (ix3 b d k) = 0) (n : ℕ) (hn : n ≤ 128) (t : Fin 128) (ht : t.val < n) (b : Fin 8) (d : Fin 256) :
    (after a0 a1 a2 a3 a4 a5 n).main_v2_7 (ix3 t b d) = result a0 a1 a2 a3 a4 (ix3 b t d) := by
  induction n with
  | zero => omega
  | succ n ih =>
    have h := RefStep.result_apply ⟨n, hn⟩ (after a0 a1 a2 a3 a4 a5 n) t b d
    refine Eq.trans h ?_
    split
    · next e =>
      subst e
      exact trip_row a0 a1 a2 a3 a4 a5 h5 ⟨n, hn⟩ b d
    · next e => exact ih (by omega) (by have : t.val ≠ n := fun h => e (Fin.ext h); omega)

/-- The array returned is the loop's rows with the batch axis first. -/
theorem returned_apply (s : State Ideal) (b : Fin 8) (t : Fin 128) (d : Fin 256) :
    Step.R_main_v3 s (ix3 b t d) = s.main_v2_7 (ix3 t b d) := by
  pointwise [Step.R_main_v3]

/-- The array the loop's last state gives is the result. -/
theorem returned_eq (h5 : ∀ b d k, a5 (ix3 b d k) = 0) (n : ℕ) (hn : n = 128) :
    Step.R_main_v3 (after a0 a1 a2 a3 a4 a5 n) = result a0 a1 a2 a3 a4 := by
  funext i
  rw [eq_ix3 i]
  exact (returned_apply _ _ _ _).trans
    (after_rows a0 a1 a2 a3 a4 a5 h5 n hn.le (i 1) ((i 1).isLt.trans_eq hn.symm) (i 0) (i 2))

/-- Every execution of the reference from a zero memory ends with its result array at `result` of the arguments, and
    the arguments unchanged. -/
theorem run (m : (ℓ : Loc nD τ sig) → Buf (Elt Ideal) ℓ) (ρ : Dev nD → PrngReg)
    (h5 : ∀ (c : Dev nD) b d k, m ((c.tc : Thread nD τ).loc main_arg5) (ix3 b d k) = (0 : EReal)) :
    θ_run (defs (F := Ideal)) (onTc (τ := τ) (main (F := Ideal))) ⟨m, fun _ => 0, ρ⟩ fun r => ∀ c : Dev nD,
      r.2.mem ((c.tc : Thread nD τ).loc main_v3)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((RefLoop.out_eq m c
      (after (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))) rfl (fun _ => rfl)).trans
      (returned_eq _ _ _ _ _ _ (h5 c) 128 rfl)), (h c).2⟩) (Value.run m ρ)

end Cert.RefValue

end
-- ==== Proof.ZeroMemory.lean ====
/-
  The precondition read at an index: the memory at the start is zero everywhere.
-/
module

public import proofs.«01_k».proof.Proof.Gen.Pre_rho_is_zero
public import Idealize.ShloMosaic.Lib.Pointwise

@[expose] public section

set_option maxRecDepth 16384

noncomputable section

namespace Cert.ZeroMemory

open Idealize.ShloMosaic Cert.Pre_rho_is_zero

/-- Where the precondition holds, the memory's every element is zero. -/
theorem zero_of_pre (a0 : FVec Ideal S8x128x256 .f32) (a1 : FVec Ideal S256x2048 .f32) (a2 a3 : FVec Ideal S2048x256 .f32)
    (a4 : FVec Ideal S8x2048 .f32) (a5 : FVec Ideal S8x256x2048 .f32)
    (h : Cert.Pre_rho_is_zero.fn (F := Ideal) a0 a1 a2 a3 a4 a5 = fun _ => 1#1)
    (b : Fin 8) (d : Fin 256) (k : Fin 2048) : a5 (ix3 b d k) = (0 : EReal) := by
  have hi : Ideal.cmp CmpFPredicate.oeq (a5 (ix3 b d k)) (Ideal.ofBits .f32 0x00000000#32) = 1#1 := congrFun h (ix3 b d k)
  rw [Ideal.ofBits_zero_f32] at hi
  by_contra hne
  simp [Ideal.cmp, hne] at hi

end Cert.ZeroMemory

end
-- ==== Proof.lean ====
/-
  The certificate's claim, assembled: the frames, the two idealizations, and the equality of the kernel's result
  with the reference's where the memory starts at zero.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.TableKernel
public import proofs.«01_k».proof.Proof.Gen.TableKernel.Skeleton
public import proofs.«01_k».proof.Proof.Gen.TableKernel.Loops
public import proofs.«01_k».proof.Proof.Gen.TableKernel.Launch
public import proofs.«01_k».proof.Proof.Gen.TableKernel.Points
public import proofs.«01_k».proof.Proof.Gen.TableKernel.Frame
public import proofs.«01_k».proof.Proof.Gen.TableKernelIdeal
public import proofs.«01_k».proof.Proof.Gen.TableKernelIdeal.Skeleton
public import proofs.«01_k».proof.Proof.Gen.TableKernelIdeal.Loops
public import proofs.«01_k».proof.Proof.Gen.TableKernelIdeal.Launch
public import proofs.«01_k».proof.Proof.Gen.TableKernelIdeal.Points
public import proofs.«01_k».proof.Proof.Gen.TableKernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_rho_is_zero
public import proofs.«01_k».proof.Proof.KernelValue
public import proofs.«01_k».proof.Proof.RefValue
public import proofs.«01_k».proof.Proof.ZeroMemory
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and no counter is left: it declares none. -/
theorem referenceFrame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's result array and the reference's are the same function of the arguments. -/
theorem result_eq (a0 : FVec Ideal Cert.KernelIdeal.S8x128x256 .f32) (a1 : FVec Ideal Cert.KernelIdeal.S256x2048 .f32)
    (a2 a3 : FVec Ideal Cert.KernelIdeal.S2048x256 .f32) (a4 : FVec Ideal Cert.KernelIdeal.S8x2048 .f32) :
    Cert.RefValue.result a0 a1 a2 a3 a4 = Cert.KernelValue.result a0 a1 a2 a3 a4 :=
  funext fun i => (Cert.Rows.attended_eq_remembered _ _ _ _ _ (i 0) (i 1).val (i 1).isLt (i 2)).symm

/-- Where the memory starts at zero, kernel and reference end with equal results. -/
theorem equal : Cert.algebraic_KernelIdeal_ReferenceIdeal_pre_rho_is_zero := by
  intro m ρ m' ρ' hpre hagree
  have h5 : ∀ (c : Dev Cert.ReferenceIdeal.nD) b d k,
      m' ((c : Thread Cert.ReferenceIdeal.nD Cert.ReferenceIdeal.τ).loc Cert.ReferenceIdeal.main_arg5) (ix3 b d k) = (0 : EReal) := by
    intro c b d k
    rw [(hagree c).2.2.2.2.2]
    exact Cert.ZeroMemory.zero_of_pre _ _ _ _ _ _ (hpre c) b d k
  refine ⟨_, Cert.KernelValue.run m ρ, ?_⟩
  refine (θ_run _ _ _).mono (fun _ h c => ⟨(h c).1.trans ?_, (h c).2⟩) (Cert.RefValue.run m' ρ' h5)
  obtain ⟨e0, e1, e2, e3, e4, -⟩ := hagree c
  rw [e0, e1, e2, e3, e4]
  exact result_eq _ _ _ _ _

theorem claim : Cert.Claim :=
  ⟨Cert.Kernel.Gen.facts, Cert.KernelIdeal.Gen.facts, Cert.ReferenceIdeal.Gen.facts, Cert.TableKernel.Gen.facts,
    Cert.TableKernelIdeal.Gen.facts, Cert.Pre_rho_is_zero.Gen.facts,
    fun m ρ _ => Cert.Kernel.Gen.frame m ρ,
    fun m ρ _ => Cert.KernelIdeal.Gen.frame m ρ,
    fun m ρ _ => Cert.KernelIdeal.Gen.frame m ρ,
    referenceFrame,
    fun m ρ _ => referenceFrame m ρ trivial,
    fun m ρ _ => Cert.TableKernel.Gen.frame m ρ,
    fun m ρ _ => Cert.TableKernelIdeal.Gen.frame m ρ,
    trivial,
    equal,
    trivial⟩

end Cert.Proof

end
